-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))).1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))).2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v41) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)) →
    ∃ (v0 : (c : Dev Cert.PoolIdeal.nD) → Buf (Elt Ideal) ((c.tc : Thread Cert.PoolIdeal.nD Cert.PoolIdeal.τ).loc Cert.PoolIdeal.main_v4)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v4) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v94) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4))

def preserves_Attn_AttnIdeal : Prop :=
  IdealRules.named_const.Statement Cert.AttnIdeal.κ "mask" .f32 0xF149F2CA#32 ⊥

def Claim : Prop :=
  ∃ (hKernel : Cert.Kernel.Facts) (hKernelIdeal : Cert.KernelIdeal.Facts) (hReferenceIdeal : Cert.ReferenceIdeal.Facts) (hConv : Cert.Conv.Facts) (hConvIdeal : Cert.ConvIdeal.Facts) (hConvRefIdeal : Cert.ConvRefIdeal.Facts) (hPool : Cert.Pool.Facts) (hPoolIdeal : Cert.PoolIdeal.Facts) (hPoolRefIdeal : Cert.PoolRefIdeal.Facts) (hAttn : Cert.Attn.Facts) (hAttnIdeal : Cert.AttnIdeal.Facts) (hPre_pool_finite : Cert.Pre_pool_finite.Facts),
    quiescent_Kernel (hKernel := hKernel)
    ∧ quiescent_KernelIdeal (hKernelIdeal := hKernelIdeal)
    ∧ quiescent_ReferenceIdeal (hReferenceIdeal := hReferenceIdeal)
    ∧ quiescent_Conv (hConv := hConv)
    ∧ quiescent_ConvIdeal (hConvIdeal := hConvIdeal)
    ∧ quiescent_ConvRefIdeal (hConvRefIdeal := hConvRefIdeal)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_Attn (hAttn := hAttn)
    ∧ quiescent_AttnIdeal (hAttnIdeal := hAttnIdeal)
    ∧ preserves_Kernel_KernelIdeal
    ∧ algebraic_KernelIdeal_ReferenceIdeal (hKernelIdeal := hKernelIdeal) (hReferenceIdeal := hReferenceIdeal)
    ∧ preserves_Conv_ConvIdeal
    ∧ algebraic_ConvIdeal_ConvRefIdeal (hConvIdeal := hConvIdeal) (hConvRefIdeal := hConvRefIdeal)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_Attn_AttnIdeal
-- ==== Pre_pool_finite.lean ====
abbrev S8x8192x1024 : Shape := ⟨3, ![8, 8192, 1024]⟩
abbrev S1024 : Shape := ⟨1, ![1024]⟩
abbrev S4x256x256 : Shape := ⟨3, ![4, 256, 256]⟩
abbrev S_ : Shape := ⟨0, ![]⟩

class Facts : Prop where
  bcast_S_S8x8192x1024 : S_.BroadcastsInDim S8x8192x1024 (![] : Fin 0 → Fin S8x8192x1024.rank)
  bcast_S_S1024 : S_.BroadcastsInDim S1024 (![] : Fin 0 → Fin S1024.rank)

variable [Facts]

def fn {F : FTy → Type} [FloatOps F] (main_arg0 : FVec F S8x8192x1024 .f32) (main_arg1 : FVec F S1024 .f32) (main_arg2 : FVec F S4x256x256 .f32) (main_arg3 : FVec F S1024 .f32) (main_arg4 : FVec F S1024 .f32) : IVec S8x8192x1024 1 × IVec S1024 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  (main_v2, main_v5)
-- ==== Kernel.lean ====
abbrev S8x8192x1024 : Shape := ⟨3, ![8, 8192, 1024]⟩
abbrev S1024 : Shape := ⟨1, ![1024]⟩
abbrev S1024x5632 : Shape := ⟨2, ![1024, 5632]⟩
abbrev S2816x1024 : Shape := ⟨2, ![2816, 1024]⟩
abbrev S65536x1024 : Shape := ⟨2, ![65536, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S65536x1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x8192x1024 : Shape := ⟨3, ![8, 8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8192x2816 : Shape := ⟨3, ![8, 8192, 2816]⟩
abbrev S65536x1024 : Shape := ⟨2, ![65536, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8x8192x1024, .f32⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S8x8192x1, .f32⟩
  | .hbm, ⟨15, _⟩ => ⟨S8x8192x1024, .f32⟩
  | .hbm, ⟨16, _⟩ => ⟨S8x8192x1024, .f32⟩
  | .hbm, ⟨17, _⟩ => ⟨S1x1x1024, .f32⟩
  | .hbm, ⟨18, _⟩ => ⟨S8x8192x1024, .f32⟩
  | .hbm, ⟨19, _⟩ => ⟨S8x8192x1024, .f32⟩
  | .hbm, ⟨20, _⟩ => ⟨S8x8192x5632, .f32⟩
  | .hbm, ⟨21, _⟩ => ⟨S8x8192x2816, .f32⟩
  | .hbm, ⟨22, _⟩ => ⟨S8x8192x2816, .f32⟩
  | .hbm, ⟨23, _⟩ => ⟨S8x8192x2816, .f32⟩
  | .hbm, ⟨24, _⟩ => ⟨S8x8192x2816, .f32⟩
  | .hbm, ⟨25, _⟩ => ⟨S_, .f32⟩
  | .hbm, ⟨26, _⟩ => ⟨S8x8192x2816, .f32⟩
  | .hbm, ⟨27, _⟩ => ⟨S8x8192x2816, .f32⟩
  | .hbm, ⟨28, _⟩ => ⟨S_, .f32⟩
  | .hbm, ⟨29, _⟩ => ⟨S8x8192x2816, .f32⟩
  | .hbm, ⟨30, _⟩ => ⟨S8x8192x2816, .f32⟩
  | .hbm, ⟨31, _⟩ => ⟨S8x8192x2816, .f32⟩
  | .hbm, ⟨32, _⟩ => ⟨S8x8192x2816, .f32⟩
  | .hbm, ⟨33, _⟩ => ⟨S8x8192x1024, .f32⟩
  | .hbm, ⟨34, _⟩ => ⟨S_, .f32⟩
  | .hbm, ⟨35, _⟩ => ⟨S8x8192x1024, .f32⟩
  | .hbm, ⟨36, _⟩ => ⟨S8x8192x1024, .f32⟩
  | .hbm, ⟨37, _⟩ => ⟨S8x8192x1024, .f32⟩
  | .hbm, ⟨38, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Conv.lean ====
abbrev S8x8192x1024 : Shape := ⟨3, ![8, 8192, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1x1024 : Shape := ⟨2, ![1, 1024]⟩
abbrev S1x512x1024 : Shape := ⟨3, ![1, 512, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S504x1024 : Shape := ⟨2, ![504, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S1x1024, .f32⟩
  | .hbm, ⟨6, _⟩ => ⟨S1024x3072, .bf16⟩
  | .hbm, ⟨7, _⟩ => ⟨S1024x1024, .bf16⟩
  | .hbm, ⟨8, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S3x1024, .f32⟩
  | .local _ .vmem, ⟨5, _⟩ => ⟨S1024x1024, .bf16⟩
  | .local _ .vmem, ⟨6, _⟩ => ⟨S1x512x1024, .f32⟩
  | .local _ .vmem, ⟨7, _⟩ => ⟨S1x512x1024, .f32⟩
  | .local _ .vmem, ⟨8, _⟩ => ⟨S8x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvRefIdeal.lean ====
abbrev S8x8192x1024 : Shape := ⟨3, ![8, 8192, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x3072 : Shape := ⟨3, ![8, 8192, 3072]⟩
abbrev S8x8194x1024 : Shape := ⟨3, ![8, 8194, 1024]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x3072, .f32⟩
  | .hbm, ⟨22, _⟩ => ⟨S8x8192x1024, .f32⟩
  | .hbm, ⟨23, _⟩ => ⟨S8x8192x1024, .f32⟩
  | .hbm, ⟨24, _⟩ => ⟨S8x8192x1024, .f32⟩
  | .hbm, ⟨25, _⟩ => ⟨S8x8192x1024, .f32⟩
  | .hbm, ⟨26, _⟩ => ⟨S_, .i32⟩
  | .hbm, ⟨27, _⟩ => ⟨S_, .f32⟩
  | .hbm, ⟨28, _⟩ => ⟨S8x8194x1024, .f32⟩
  | .hbm, ⟨29, _⟩ => ⟨S1x1024, .f32⟩
  | .hbm, ⟨30, _⟩ => ⟨S1024, .f32⟩
  | .hbm, ⟨31, _⟩ => ⟨S8x8192x1024, .f32⟩
  | .hbm, ⟨32, _⟩ => ⟨S1x1x1024, .f32⟩
  | .hbm, ⟨33, _⟩ => ⟨S8x8192x1024, .f32⟩
  | .hbm, ⟨34, _⟩ => ⟨S8x8192x1024, .f32⟩
  | .hbm, ⟨35, _⟩ => ⟨S1x1024, .f32⟩
  | .hbm, ⟨36, _⟩ => ⟨S1024, .f32⟩
  | .hbm, ⟨37, _⟩ => ⟨S8x8192x1024, .f32⟩
  | .hbm, ⟨38, _⟩ => ⟨S1x1x1024, .f32⟩
  | .hbm, ⟨39, _⟩ => ⟨S8x8192x1024, .f32⟩
  | .hbm, ⟨40, _⟩ => ⟨S8x8192x1024, .f32⟩
  | .hbm, ⟨41, _⟩ => ⟨S8x8192x1024, .f32⟩
  | .hbm, ⟨42, _⟩ => ⟨S1x1024, .f32⟩
  | .hbm, ⟨43, _⟩ => ⟨S1024, .f32⟩
  | .hbm, ⟨44, _⟩ => ⟨S8x8192x1024, .f32⟩
  | .hbm, ⟨45, _⟩ => ⟨S1x1x1024, .f32⟩
  | .hbm, ⟨46, _⟩ => ⟨S8x8192x1024, .f32⟩
  | .hbm, ⟨47, _⟩ => ⟨S8x8192x1024, .f32⟩
  | .hbm, ⟨48, _⟩ => ⟨S8x8192x1024, .f32⟩
  | .hbm, ⟨49, _⟩ => ⟨S8x8192x1024, .f32⟩
  | .hbm, ⟨50, _⟩ => ⟨S8x8192x1024, .f32⟩
  | .hbm, ⟨51, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Pool.lean ====
abbrev S8x8192x1024 : Shape := ⟨3, ![8, 8192, 1024]⟩
abbrev S1024 : Shape := ⟨1, ![1024]⟩
abbrev S4x256x256 : Shape := ⟨3, ![4, 256, 256]⟩
abbrev S1x1024 : Shape := ⟨2, ![1, 1024]⟩
abbrev S1x512x1024 : Shape := ⟨3, ![1, 512, 1024]⟩
abbrev S16x1024 : Shape := ⟨2, ![16, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S16x256 : Shape := ⟨2, ![16, 256]⟩
abbrev S528x256 : Shape := ⟨2, ![528, 256]⟩
abbrev S1x256x256 : Shape := ⟨3, ![1, 256, 256]⟩
abbrev S256x256 : Shape := ⟨2, ![256, 256]⟩

abbrev nBuf : Space → Nat
  | .hbm => 10
  | .vmem => 9
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S4x256x256, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S4x256x256, .bf16⟩
  | .hbm, ⟨7, _⟩ => ⟨S1x1024, .f32⟩
  | .hbm, ⟨8, _⟩ => ⟨S1x1024, .f32⟩
  | .hbm, ⟨9, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S4x256x256, .bf16⟩
  | .local _ .vmem, ⟨4, _⟩ => ⟨S1x1024, .f32⟩
  | .local _ .vmem, ⟨5, _⟩ => ⟨S1x1024, .f32⟩
  | .local _ .vmem, ⟨6, _⟩ => ⟨S1x512x1024, .f32⟩
  | .local _ .vmem, ⟨7, _⟩ => ⟨S1x512x1024, .f32⟩
  | .local _ .vmem, ⟨8, _⟩ => ⟨S16x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PoolRefIdeal.lean ====
abbrev S8x8192x1024 : Shape := ⟨3, ![8, 8192, 1024]⟩
abbrev S1024 : Shape := ⟨1, ![1024]⟩
abbrev S4x256x256 : Shape := ⟨3, ![4, 256, 256]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4x256 : Shape := ⟨4, ![8, 8192, 4, 256]⟩
abbrev S8192 : Shape := ⟨1, ![8192]⟩
abbrev S8x8192x1x256 : Shape := ⟨4, ![8, 8192, 1, 256]⟩
abbrev S8x8192x256 : Shape := ⟨3, ![8, 8192, 256]⟩
abbrev S8x8194x256 : Shape := ⟨3, ![8, 8194, 256]⟩
abbrev S1x8192x1 : Shape := ⟨3, ![1, 8192, 1]⟩
abbrev S8x8196x256 : Shape := ⟨3, ![8, 8196, 256]⟩
abbrev S8x8200x256 : Shape := ⟨3, ![8, 8200, 256]⟩
abbrev S8x8208x256 : Shape := ⟨3, ![8, 8208, 256]⟩
abbrev S4x256x8x8192 : Shape := ⟨4, ![4, 256, 8, 8192]⟩

abbrev nBuf : Space → Nat
  | .hbm => 121
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S4x256x256, .f32⟩
  | .hbm, ⟨3, _⟩ => ⟨S1024, .f32⟩
  | .hbm, ⟨4, _⟩ => ⟨S1024, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x4x256, .f32⟩
  | .hbm, ⟨22, _⟩ => ⟨S_, .f32⟩
  | .hbm, ⟨23, _⟩ => ⟨S_, .f32⟩
  | .hbm, ⟨24, _⟩ => ⟨S8x8192x4x256, .f32⟩
  | .hbm, ⟨25, _⟩ => ⟨S8192, .i32⟩
  | .hbm, ⟨26, _⟩ => ⟨S8x8192x1x256, .f32⟩
  | .hbm, ⟨27, _⟩ => ⟨S8x8192x256, .f32⟩
  | .hbm, ⟨28, _⟩ => ⟨S_, .i32⟩
  | .hbm, ⟨29, _⟩ => ⟨S_, .f32⟩
  | .hbm, ⟨30, _⟩ => ⟨S8x8194x256, .f32⟩
  | .hbm, ⟨31, _⟩ => ⟨S8x8192x256, .f32⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S8192, .f32⟩
  | .hbm, ⟨39, _⟩ => ⟨S1x8192x1, .f32⟩
  | .hbm, ⟨40, _⟩ => ⟨S8x8192x256, .f32⟩
  | .hbm, ⟨41, _⟩ => ⟨S8x8192x256, .f32⟩
  | .hbm, ⟨42, _⟩ => ⟨S8x8192x256, .f32⟩
  | .hbm, ⟨43, _⟩ => ⟨S8x8192x1x256, .f32⟩
  | .hbm, ⟨44, _⟩ => ⟨S8x8192x256, .f32⟩
  | .hbm, ⟨45, _⟩ => ⟨S8x8192x256, .f32⟩
  | .hbm, ⟨46, _⟩ => ⟨S8x8192x1x256, .f32⟩
  | .hbm, ⟨47, _⟩ => ⟨S8x8192x256, .f32⟩
  | .hbm, ⟨48, _⟩ => ⟨S_, .i32⟩
  | .hbm, ⟨49, _⟩ => ⟨S_, .f32⟩
  | .hbm, ⟨50, _⟩ => ⟨S8x8196x256, .f32⟩
  | .hbm, ⟨51, _⟩ => ⟨S8x8192x256, .f32⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S_, .i32⟩
  | .hbm, ⟨56, _⟩ => ⟨S8192, .i32⟩
  | .hbm, ⟨57, _⟩ => ⟨S8192, .i32⟩
  | .hbm, ⟨58, _⟩ => ⟨S8192, .f32⟩
  | .hbm, ⟨59, _⟩ => ⟨S1x8192x1, .f32⟩
  | .hbm, ⟨60, _⟩ => ⟨S8x8192x256, .f32⟩
  | .hbm, ⟨61, _⟩ => ⟨S8x8192x256, .f32⟩
  | .hbm, ⟨62, _⟩ => ⟨S8x8192x256, .f32⟩
  | .hbm, ⟨63, _⟩ => ⟨S8x8192x1x256, .f32⟩
  | .hbm, ⟨64, _⟩ => ⟨S8x8192x256, .f32⟩
  | .hbm, ⟨65, _⟩ => ⟨S8x8192x256, .f32⟩
  | .hbm, ⟨66, _⟩ => ⟨S8x8192x1x256, .f32⟩
  | .hbm, ⟨67, _⟩ => ⟨S8x8192x256, .f32⟩
  | .hbm, ⟨68, _⟩ => ⟨S_, .i32⟩
  | .hbm, ⟨69, _⟩ => ⟨S_, .f32⟩
  | .hbm, ⟨70, _⟩ => ⟨S8x8200x256, .f32⟩
  | .hbm, ⟨71, _⟩ => ⟨S8x8192x256, .f32⟩
  | .hbm, ⟨72, _⟩ => ⟨S_, .i32⟩
  | .hbm, ⟨73, _⟩ => ⟨S8192, .i32⟩
  | .hbm, ⟨74, _⟩ => ⟨S8192, .i32⟩
  | .hbm, ⟨75, _⟩ => ⟨S_, .i32⟩
  | .hbm, ⟨76, _⟩ => ⟨S8192, .i32⟩
  | .hbm, ⟨77, _⟩ => ⟨S8192, .i32⟩
  | .hbm, ⟨78, _⟩ => ⟨S8192, .f32⟩
  | .hbm, ⟨79, _⟩ => ⟨S1x8192x1, .f32⟩
  | .hbm, ⟨80, _⟩ => ⟨S8x8192x256, .f32⟩
  | .hbm, ⟨81, _⟩ => ⟨S8x8192x256, .f32⟩
  | .hbm, ⟨82, _⟩ => ⟨S8x8192x256, .f32⟩
  | .hbm, ⟨83, _⟩ => ⟨S8x8192x1x256, .f32⟩
  | .hbm, ⟨84, _⟩ => ⟨S8x8192x256, .f32⟩
  | .hbm, ⟨85, _⟩ => ⟨S8x8192x256, .f32⟩
  | .hbm, ⟨86, _⟩ => ⟨S8x8192x1x256, .f32⟩
  | .hbm, ⟨87, _⟩ => ⟨S8x8192x256, .f32⟩
  | .hbm, ⟨88, _⟩ => ⟨S_, .i32⟩
  | .hbm, ⟨89, _⟩ => ⟨S_, .f32⟩
  | .hbm, ⟨90, _⟩ => ⟨S8x8208x256, .f32⟩
  | .hbm, ⟨91, _⟩ => ⟨S8x8192x256, .f32⟩
  | .hbm, ⟨92, _⟩ => ⟨S_, .i32⟩
  | .hbm, ⟨93, _⟩ => ⟨S8192, .i32⟩
  | .hbm, ⟨94, _⟩ => ⟨S8192, .i32⟩
  | .hbm, ⟨95, _⟩ => ⟨S_, .i32⟩
  | .hbm, ⟨96, _⟩ => ⟨S8192, .i32⟩
  | .hbm, ⟨97, _⟩ => ⟨S8192, .i32⟩
  | .hbm, ⟨98, _⟩ => ⟨S8192, .f32⟩
  | .hbm, ⟨99, _⟩ => ⟨S1x8192x1, .f32⟩
  | .hbm, ⟨100, _⟩ => ⟨S8x8192x256, .f32⟩
  | .hbm, ⟨101, _⟩ => ⟨S8x8192x256, .f32⟩
  | .hbm, ⟨102, _⟩ => ⟨S8x8192x256, .f32⟩
  | .hbm, ⟨103, _⟩ => ⟨S8x8192x1x256, .f32⟩
  | .hbm, ⟨104, _⟩ => ⟨S8x8192x256, .f32⟩
  | .hbm, ⟨105, _⟩ => ⟨S8x8192x256, .f32⟩
  | .hbm, ⟨106, _⟩ => ⟨S8x8192x1x256, .f32⟩
  | .hbm, ⟨107, _⟩ => ⟨S8x8192x1x256, .f32⟩
  | .hbm, ⟨108, _⟩ => ⟨S8x8192x1x256, .f32⟩
  | .hbm, ⟨109, _⟩ => ⟨S8x8192x1x256, .f32⟩
  | .hbm, ⟨110, _⟩ => ⟨S8x8192x4x256, .f32⟩
  | .hbm, ⟨111, _⟩ => ⟨S4x256x8x8192, .f32⟩
  | .hbm, ⟨112, _⟩ => ⟨S8x8192x4x256, .f32⟩
  | .hbm, ⟨113, _⟩ => ⟨S8x8192x1024, .f32⟩
  | .hbm, ⟨114, _⟩ => ⟨S1x1x1024, .f32⟩
  | .hbm, ⟨115, _⟩ => ⟨S8x8192x1024, .f32⟩
  | .hbm, ⟨116, _⟩ => ⟨S8x8192x1024, .f32⟩
  | .hbm, ⟨117, _⟩ => ⟨S1x1x1024, .f32⟩
  | .hbm, ⟨118, _⟩ => ⟨S8x8192x1024, .f32⟩
  | .hbm, ⟨119, _⟩ => ⟨S8x8192x1024, .f32⟩
  | .hbm, ⟨120, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_call0_cst : Ref sig .tc := ⟨.hbm, 22, rfl⟩
abbrev main_call0_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call1_v0 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_call2_v0 : Ref sig .tc := ⟨.hbm, 49, rfl⟩
abbrev main_v34 : Ref sig .tc := ⟨.hbm, 50, rfl⟩
abbrev main_v35 : Ref sig .tc := ⟨.hbm, 51, rfl⟩
abbrev main_c_5 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_7 : Ref sig .tc := ⟨.hbm, 68, rfl⟩
abbrev main_call3_v0 : Ref sig .tc := ⟨.hbm, 69, rfl⟩
abbrev main_v50 : Ref sig .tc := ⟨.hbm, 70, rfl⟩
abbrev main_v51 : Ref sig .tc := ⟨.hbm, 71, rfl⟩
abbrev main_c_8 : Ref sig .tc := ⟨.hbm, 72, rfl⟩
abbrev main_v52 : Ref sig .tc := ⟨.hbm, 73, rfl⟩
abbrev main_v53 : Ref sig .tc := ⟨.hbm, 74, rfl⟩
abbrev main_c_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_10 : Ref sig .tc := ⟨.hbm, 88, rfl⟩
abbrev main_call4_v0 : Ref sig .tc := ⟨.hbm, 89, rfl⟩
abbrev main_v66 : Ref sig .tc := ⟨.hbm, 90, rfl⟩
abbrev main_v67 : Ref sig .tc := ⟨.hbm, 91, rfl⟩
abbrev main_c_11 : Ref sig .tc := ⟨.hbm, 92, rfl⟩
abbrev main_v68 : Ref sig .tc := ⟨.hbm, 93, rfl⟩
abbrev main_v69 : Ref sig .tc := ⟨.hbm, 94, rfl⟩
abbrev main_c_12 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩

abbrev nD : Nat := 1
abbrev τ : Topo := Topo.v7x

variable {F : FTy → Type} [FloatOps F]
-- ==== Attn.lean ====
abbrev S8x8192x1024 : Shape := ⟨3, ![8, 8192, 1024]⟩
abbrev S1024 : Shape := ⟨1, ![1024]⟩
abbrev S1024x1280 : Shape := ⟨2, ![1024, 1280]⟩
abbrev S1280 : Shape := ⟨1, ![1280]⟩
abbrev S64 : Shape := ⟨1, ![64]⟩
abbrev S16 : Shape := ⟨1, ![16]⟩
abbrev S1024x1024 : Shape := ⟨2, ![1024, 1024]⟩
abbrev S32x16 : Shape := ⟨2, ![32, 16]⟩
abbrev S128x256 : Shape := ⟨2, ![128, 256]⟩
abbrev S1x64 : Shape := ⟨2, ![1, 64]⟩
abbrev S16x64 : Shape := ⟨2, ![16, 64]⟩
abbrev S_ : Shape := ⟨0, ![]⟩
abbrev S1x1024 : Shape := ⟨2, ![1, 1024]⟩
abbrev S2x64 : Shape := ⟨2, ![2, 64]⟩
abbrev S128 : Shape := ⟨1, ![128]⟩
abbrev S1x128 : Shape := ⟨2, ![1, 128]⟩
abbrev S1x1280 : Shape := ⟨2, ![1, 1280]⟩
abbrev S1x512x1024 : Shape := ⟨3, ![1, 512, 1024]⟩
abbrev S2x2x512x512 : Shape := ⟨4, ![2, 2, 512, 512]⟩
abbrev S512x1024 : Shape := ⟨2, ![512, 1024]⟩
abbrev S4x640x128 : Shape := ⟨3, ![4, 640, 128]⟩
abbrev S1x1 : Shape := ⟨2, ![1, 1]⟩
abbrev S1x1x128x256 : Shape := ⟨4, ![1, 1, 128, 256]⟩
abbrev S4x128x128 : Shape := ⟨3, ![4, 128, 128]⟩
abbrev S512 : Shape := ⟨1, ![512]⟩
abbrev S512x1 : Shape := ⟨2, ![512, 1]⟩
abbrev S256x256 : Shape := ⟨2, ![256, 256]⟩
abbrev S512x256 : Shape := ⟨2, ![512, 256]⟩
abbrev S1024x256 : Shape := ⟨2, ![1024, 256]⟩
abbrev S1x256 : Shape := ⟨2, ![1, 256]⟩
abbrev S512x128 : Shape := ⟨2, ![512, 128]⟩
abbrev S128x128 : Shape := ⟨2, ![128, 128]⟩
abbrev S1x512x128 : Shape := ⟨3, ![1, 512, 128]⟩
abbrev S1x256x128 : Shape := ⟨3, ![1, 256, 128]⟩
abbrev S256x128 : Shape := ⟨2, ![256, 128]⟩
abbrev S1x1x512x256 : Shape := ⟨4, ![1, 1, 512, 256]⟩
abbrev S1 : Shape := ⟨1, ![1]⟩
abbrev S128x1 : Shape := ⟨2, ![128, 1]⟩

abbrev nBuf : Space → Nat
  | .hbm => 29
  | .vmem => 18
  | .smem => 2
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x1280, .f32⟩
  | .hbm, ⟨3, _⟩ => ⟨S1280, .f32⟩
  | .hbm, ⟨4, _⟩ => ⟨S64, .f32⟩
  | .hbm, ⟨5, _⟩ => ⟨S64, .f32⟩
  | .hbm, ⟨6, _⟩ => ⟨S16, .f32⟩
  | .hbm, ⟨7, _⟩ => ⟨S1024x1024, .f32⟩
  | .hbm, ⟨8, _⟩ => ⟨S1024, .f32⟩
  | .hbm, ⟨9, _⟩ => ⟨S32x16, .f32⟩
  | .hbm, ⟨10, _⟩ => ⟨S128x256, .i32⟩
  | .hbm, ⟨11, _⟩ => ⟨S128x256, .i32⟩
  | .hbm, ⟨12, _⟩ => ⟨S1x64, .f32⟩
  | .hbm, ⟨13, _⟩ => ⟨S16x64, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1x1024, .f32⟩
  | .hbm, ⟨19, _⟩ => ⟨S1x64, .f32⟩
  | .hbm, ⟨20, _⟩ => ⟨S2x64, .f32⟩
  | .hbm, ⟨21, _⟩ => ⟨S128, .f32⟩
  | .hbm, ⟨22, _⟩ => ⟨S1x128, .f32⟩
  | .hbm, ⟨23, _⟩ => ⟨S1x1024, .f32⟩
  | .hbm, ⟨24, _⟩ => ⟨S1024x1280, .bf16⟩
  | .hbm, ⟨25, _⟩ => ⟨S1x1280, .f32⟩
  | .hbm, ⟨26, _⟩ => ⟨S1024x1024, .bf16⟩
  | .hbm, ⟨27, _⟩ => ⟨S1x1024, .f32⟩
  | .hbm, ⟨28, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1280, .bf16⟩
  | .local _ .vmem, ⟨4, _⟩ => ⟨S1x1280, .f32⟩
  | .local _ .vmem, ⟨5, _⟩ => ⟨S1x1024, .f32⟩
  | .local _ .vmem, ⟨6, _⟩ => ⟨S1x128, .f32⟩
  | .local _ .vmem, ⟨7, _⟩ => ⟨S128x256, .i32⟩
  | .local _ .vmem, ⟨8, _⟩ => ⟨S128x256, .i32⟩
  | .local _ .vmem, ⟨9, _⟩ => ⟨S1024x1024, .bf16⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S2x2x512x512, .f32⟩
  | .local _ .vmem, ⟨14, _⟩ => ⟨S512x1024, .bf16⟩
  | .local _ .vmem, ⟨15, _⟩ => ⟨S4x640x128, .bf16⟩
  | .local _ .vmem, ⟨16, _⟩ => ⟨S4x640x128, .bf16⟩
  | .local _ .vmem, ⟨17, _⟩ => ⟨S512x1024, .bf16⟩
  | .local _ .smem, ⟨0, _⟩ => ⟨S16, .f32⟩
  | .local _ .smem, ⟨1, _⟩ => ⟨S32x16, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg12_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg0 : BitVec 32 := BitVec.ofNat 32 (i 0).val
  let c0_i32_0 : BitVec 32 := 0#32
  let v1 : BitVec 1 := Scalar.cmpi .eq arg0 c0_i32_0
  let arg1 : BitVec 32 := BitVec.ofNat 32 (i 1).val
  let c0_i32_1 : BitVec 32 := 0#32
  let v2 : BitVec 1 := Scalar.cmpi .eq arg1 c0_i32_1
  let v3 : BitVec 1 := Scalar.andi v1 v2
  let v4 : BitVec 32 := Scalar.extui v3
  let c0_i32_2 : BitVec 32 := 0#32
  let v5 : BitVec 1 := Scalar.cmpi .ne v4 c0_i32_2
  v5

@[reducible] def k0_t1_loop : Scf.Loop 32 :=
  let c0_i32_104 : BitVec 32 := 0#32
  let c32_i32 : BitVec 32 := 32#32
  let v198 : BitVec 32 := Scalar.addi c0_i32_104 c32_i32
  let c1_i32_105 : BitVec 32 := 1#32
  ⟨c0_i32_104, v198, c1_i32_105⟩
def k0_off1 (k0_t1 : Fin k0_t1_loop.trips) : Fin 2 → Nat :=
  let c0_i32_104 : BitVec 32 := 0#32
  let c1_i32_105 : BitVec 32 := 1#32
  let arg20 : BitVec 32 := Scf.iv c0_i32_104 c1_i32_105 k0_t1
  let v407 : Index := Scalar.indexCast arg20
  let c0_340 : Index := 0#32
  ![v407.toNat, 0]
@[reducible] def k0_t2_loop : Scf.Loop 32 :=
  let c0_i32_118 : BitVec 32 := 0#32
  let c32_i32_119 : BitVec 32 := 32#32
  let v211 : BitVec 32 := Scalar.addi c0_i32_118 c32_i32_119
  let c1_i32_120 : BitVec 32 := 1#32
  ⟨c0_i32_118, v211, c1_i32_120⟩
def k0_off2 (k0_t2 : Fin k0_t2_loop.trips) : Fin 2 → Nat :=
  let c0_i32_118 : BitVec 32 := 0#32
  let c1_i32_120 : BitVec 32 := 1#32
  let arg20 : BitVec 32 := Scf.iv c0_i32_118 c1_i32_120 k0_t2
  let v407 : Index := Scalar.indexCast arg20
  let c1_340 : Index := 1#32
  ![v407.toNat, 1]
@[reducible] def k0_t3_loop : Scf.Loop 32 :=
  let c0_i32_132 : BitVec 32 := 0#32
  let c32_i32_133 : BitVec 32 := 32#32
  let v224 : BitVec 32 := Scalar.addi c0_i32_132 c32_i32_133
  let c1_i32_134 : BitVec 32 := 1#32
  ⟨c0_i32_132, v224, c1_i32_134⟩
def k0_off3 (k0_t3 : Fin k0_t3_loop.trips) : Fin 2 → Nat :=
  let c0_i32_132 : BitVec 32 := 0#32
  let c1_i32_134 : BitVec 32 := 1#32
  let arg20 : BitVec 32 := Scf.iv c0_i32_132 c1_i32_134 k0_t3
  let v407 : Index := Scalar.indexCast arg20
  let c2_340 : Index := 2#32
  ![v407.toNat, 2]
@[reducible] def k0_t4_loop : Scf.Loop 32 :=
  let c0_i32_147 : BitVec 32 := 0#32
  let c32_i32_148 : BitVec 32 := 32#32
  let v237 : BitVec 32 := Scalar.addi c0_i32_147 c32_i32_148
  let c1_i32_149 : BitVec 32 := 1#32
  ⟨c0_i32_147, v237, c1_i32_149⟩
def k0_off4 (k0_t4 : Fin k0_t4_loop.trips) : Fin 2 → Nat :=
  let c0_i32_147 : BitVec 32 := 0#32
  let c1_i32_149 : BitVec 32 := 1#32
  let arg20 : BitVec 32 := Scf.iv c0_i32_147 c1_i32_149 k0_t4
  let v407 : Index := Scalar.indexCast arg20
  let c3_340 : Index := 3#32
  ![v407.toNat, 3]
@[reducible] def k0_t5_loop : Scf.Loop 32 :=
  let c0_i32_162 : BitVec 32 := 0#32
  let c32_i32_163 : BitVec 32 := 32#32
  let v250 : BitVec 32 := Scalar.addi c0_i32_162 c32_i32_163
  let c1_i32_164 : BitVec 32 := 1#32
  ⟨c0_i32_162, v250, c1_i32_164⟩
def k0_off5 (k0_t5 : Fin k0_t5_loop.trips) : Fin 2 → Nat :=
  let c0_i32_162 : BitVec 32 := 0#32
  let c1_i32_164 : BitVec 32 := 1#32
  let arg20 : BitVec 32 := Scf.iv c0_i32_162 c1_i32_164 k0_t5
  let v407 : Index := Scalar.indexCast arg20
  let c4 : Index := 4#32
  ![v407.toNat, 4]
@[reducible] def k0_t6_loop : Scf.Loop 32 :=
  let c0_i32_177 : BitVec 32 := 0#32
  let c32_i32_178 : BitVec 32 := 32#32
  let v263 : BitVec 32 := Scalar.addi c0_i32_177 c32_i32_178
  let c1_i32_179 : BitVec 32 := 1#32
  ⟨c0_i32_177, v263, c1_i32_179⟩
def k0_off6 (k0_t6 : Fin k0_t6_loop.trips) : Fin 2 → Nat :=
  let c0_i32_177 : BitVec 32 := 0#32
  let c1_i32_179 : BitVec 32 := 1#32
  let arg20 : BitVec 32 := Scf.iv c0_i32_177 c1_i32_179 k0_t6
  let v407 : Index := Scalar.indexCast arg20
  let c5 : Index := 5#32
  ![v407.toNat, 5]
@[reducible] def k0_t7_loop : Scf.Loop 32 :=
  let c0_i32_192 : BitVec 32 := 0#32
  let c32_i32_193 : BitVec 32 := 32#32
  let v276 : BitVec 32 := Scalar.addi c0_i32_192 c32_i32_193
  let c1_i32_194 : BitVec 32 := 1#32
  ⟨c0_i32_192, v276, c1_i32_194⟩
def k0_off7 (k0_t7 : Fin k0_t7_loop.trips) : Fin 2 → Nat :=
  let c0_i32_192 : BitVec 32 := 0#32
  let c1_i32_194 : BitVec 32 := 1#32
  let arg20 : BitVec 32 := Scf.iv c0_i32_192 c1_i32_194 k0_t7
  let v407 : Index := Scalar.indexCast arg20
  let c6 : Index := 6#32
  ![v407.toNat, 6]
@[reducible] def k0_t8_loop : Scf.Loop 32 :=
  let c0_i32_206 : BitVec 32 := 0#32
  let c32_i32_207 : BitVec 32 := 32#32
  let v289 : BitVec 32 := Scalar.addi c0_i32_206 c32_i32_207
  let c1_i32_208 : BitVec 32 := 1#32
  ⟨c0_i32_206, v289, c1_i32_208⟩
def k0_off8 (k0_t8 : Fin k0_t8_loop.trips) : Fin 2 → Nat :=
  let c0_i32_206 : BitVec 32 := 0#32
  let c1_i32_208 : BitVec 32 := 1#32
  let arg20 : BitVec 32 := Scf.iv c0_i32_206 c1_i32_208 k0_t8
  let v407 : Index := Scalar.indexCast arg20
  let c7 : Index := 7#32
  ![v407.toNat, 7]
@[reducible] def k0_t9_loop : Scf.Loop 32 :=
  let c0_i32_221 : BitVec 32 := 0#32
  let c32_i32_222 : BitVec 32 := 32#32
  let v302 : BitVec 32 := Scalar.addi c0_i32_221 c32_i32_222
  let c1_i32_223 : BitVec 32 := 1#32
  ⟨c0_i32_221, v302, c1_i32_223⟩
def k0_off9 (k0_t9 : Fin k0_t9_loop.trips) : Fin 2 → Nat :=
  let c0_i32_221 : BitVec 32 := 0#32
  let c1_i32_223 : BitVec 32 := 1#32
  let arg20 : BitVec 32 := Scf.iv c0_i32_221 c1_i32_223 k0_t9
  let v407 : Index := Scalar.indexCast arg20
  let c8 : Index := 8#32
  ![v407.toNat, 8]
@[reducible] def k0_t10_loop : Scf.Loop 32 :=
  let c0_i32_236 : BitVec 32 := 0#32
  let c32_i32_237 : BitVec 32 := 32#32
  let v315 : BitVec 32 := Scalar.addi c0_i32_236 c32_i32_237
  let c1_i32_238 : BitVec 32 := 1#32
  ⟨c0_i32_236, v315, c1_i32_238⟩
def k0_off10 (k0_t10 : Fin k0_t10_loop.trips) : Fin 2 → Nat :=
  let c0_i32_236 : BitVec 32 := 0#32
  let c1_i32_238 : BitVec 32 := 1#32
  let arg20 : BitVec 32 := Scf.iv c0_i32_236 c1_i32_238 k0_t10
  let v407 : Index := Scalar.indexCast arg20
  let c9 : Index := 9#32
  ![v407.toNat, 9]
@[reducible] def k0_t11_loop : Scf.Loop 32 :=
  let c0_i32_251 : BitVec 32 := 0#32
  let c32_i32_252 : BitVec 32 := 32#32
  let v328 : BitVec 32 := Scalar.addi c0_i32_251 c32_i32_252
  let c1_i32_253 : BitVec 32 := 1#32
  ⟨c0_i32_251, v328, c1_i32_253⟩
def k0_off11 (k0_t11 : Fin k0_t11_loop.trips) : Fin 2 → Nat :=
  let c0_i32_251 : BitVec 32 := 0#32
  let c1_i32_253 : BitVec 32 := 1#32
  let arg20 : BitVec 32 := Scf.iv c0_i32_251 c1_i32_253 k0_t11
  let v407 : Index := Scalar.indexCast arg20
  let c10 : Index := 10#32
  ![v407.toNat, 10]
@[reducible] def k0_t12_loop : Scf.Loop 32 :=
  let c0_i32_266 : BitVec 32 := 0#32
  let c32_i32_267 : BitVec 32 := 32#32
  let v341 : BitVec 32 := Scalar.addi c0_i32_266 c32_i32_267
  let c1_i32_268 : BitVec 32 := 1#32
  ⟨c0_i32_266, v341, c1_i32_268⟩
def k0_off12 (k0_t12 : Fin k0_t12_loop.trips) : Fin 2 → Nat :=
  let c0_i32_266 : BitVec 32 := 0#32
  let c1_i32_268 : BitVec 32 := 1#32
  let arg20 : BitVec 32 := Scf.iv c0_i32_266 c1_i32_268 k0_t12
  let v407 : Index := Scalar.indexCast arg20
  let c11 : Index := 11#32
  ![v407.toNat, 11]
@[reducible] def k0_t13_loop : Scf.Loop 32 :=
  let c0_i32_281 : BitVec 32 := 0#32
  let c32_i32_282 : BitVec 32 := 32#32
  let v354 : BitVec 32 := Scalar.addi c0_i32_281 c32_i32_282
  let c1_i32_283 : BitVec 32 := 1#32
  ⟨c0_i32_281, v354, c1_i32_283⟩
def k0_off13 (k0_t13 : Fin k0_t13_loop.trips) : Fin 2 → Nat :=
  let c0_i32_281 : BitVec 32 := 0#32
  let c1_i32_283 : BitVec 32 := 1#32
  let arg20 : BitVec 32 := Scf.iv c0_i32_281 c1_i32_283 k0_t13
  let v407 : Index := Scalar.indexCast arg20
  let c12 : Index := 12#32
  ![v407.toNat, 12]
@[reducible] def k0_t14_loop : Scf.Loop 32 :=
  let c0_i32_296 : BitVec 32 := 0#32
  let c32_i32_297 : BitVec 32 := 32#32
  let v367 : BitVec 32 := Scalar.addi c0_i32_296 c32_i32_297
  let c1_i32_298 : BitVec 32 := 1#32
  ⟨c0_i32_296, v367, c1_i32_298⟩
def k0_off14 (k0_t14 : Fin k0_t14_loop.trips) : Fin 2 → Nat :=
  let c0_i32_296 : BitVec 32 := 0#32
  let c1_i32_298 : BitVec 32 := 1#32
  let arg20 : BitVec 32 := Scf.iv c0_i32_296 c1_i32_298 k0_t14
  let v407 : Index := Scalar.indexCast arg20
  let c13 : Index := 13#32
  ![v407.toNat, 13]
@[reducible] def k0_t15_loop : Scf.Loop 32 :=
  let c0_i32_311 : BitVec 32 := 0#32
  let c32_i32_312 : BitVec 32 := 32#32
  let v380 : BitVec 32 := Scalar.addi c0_i32_311 c32_i32_312
  let c1_i32_313 : BitVec 32 := 1#32
  ⟨c0_i32_311, v380, c1_i32_313⟩
def k0_off15 (k0_t15 : Fin k0_t15_loop.trips) : Fin 2 → Nat :=
  let c0_i32_311 : BitVec 32 := 0#32
  let c1_i32_313 : BitVec 32 := 1#32
  let arg20 : BitVec 32 := Scf.iv c0_i32_311 c1_i32_313 k0_t15
  let v407 : Index := Scalar.indexCast arg20
  let c14 : Index := 14#32
  ![v407.toNat, 14]
@[reducible] def k0_t16_loop : Scf.Loop 32 :=
  let c0_i32_326 : BitVec 32 := 0#32
  let c32_i32_327 : BitVec 32 := 32#32
  let v393 : BitVec 32 := Scalar.addi c0_i32_326 c32_i32_327
  let c1_i32_328 : BitVec 32 := 1#32
  ⟨c0_i32_326, v393, c1_i32_328⟩
def k0_off16 (k0_t16 : Fin k0_t16_loop.trips) : Fin 2 → Nat :=
  let c0_i32_326 : BitVec 32 := 0#32
  let c1_i32_328 : BitVec 32 := 1#32
  let arg20 : BitVec 32 := Scf.iv c0_i32_326 c1_i32_328 k0_t16
  let v407 : Index := Scalar.indexCast arg20
  let c15 : Index := 15#32
  ![v407.toNat, 15]
@[reducible] def k0_t17_loop : Scf.Loop 32 :=
  let c0_i32_75 : BitVec 32 := 0#32
  let c4_i32 : BitVec 32 := 4#32
  let v169 : BitVec 32 := Scalar.addi c0_i32_75 c4_i32
  let c1_i32 : BitVec 32 := 1#32
  ⟨c0_i32_75, v169, c1_i32⟩
def k0_mult1 (k0_t17 : Fin k0_t17_loop.trips) : BitVec 32 :=
  let c0_i32_75 : BitVec 32 := 0#32
  let c1_i32 : BitVec 32 := 1#32
  let arg20 : BitVec 32 := Scf.iv c0_i32_75 c1_i32 k0_t17
  let c128_i32 : BitVec 32 := 128#32
  let v190 : BitVec 32 := Scalar.muli arg20 c128_i32
  v190
def k0_off17 (k0_t17 : Fin k0_t17_loop.trips) : Fin 2 → Nat :=
  let c0_i32_75 : BitVec 32 := 0#32
  let c1_i32 : BitVec 32 := 1#32
  let arg20 : BitVec 32 := Scf.iv c0_i32_75 c1_i32 k0_t17
  let c128_i32 : BitVec 32 := 128#32
  let v190 : BitVec 32 := Scalar.muli arg20 c128_i32
  let v191 : BitVec 32 := v190
  let v195 : Index := Scalar.indexCast v191
  let c0_101 : Index := 0#32
  ![v195.toNat, 0]
def k0_off18 (k0_t17 : Fin k0_t17_loop.trips) : Fin 2 → Nat :=
  let c0_i32_75 : BitVec 32 := 0#32
  let c1_i32 : BitVec 32 := 1#32
  let arg20 : BitVec 32 := Scf.iv c0_i32_75 c1_i32 k0_t17
  let c128_i32 : BitVec 32 := 128#32
  let v190 : BitVec 32 := Scalar.muli arg20 c128_i32
  let v191 : BitVec 32 := v190
  let v197 : Index := Scalar.indexCast v191
  let c128_102 : Index := 128#32
  ![v197.toNat, 128]
def k0_off19 (k0_t17 : Fin k0_t17_loop.trips) : Fin 2 → Nat :=
  let c0_i32_75 : BitVec 32 := 0#32
  let c1_i32 : BitVec 32 := 1#32
  let arg20 : BitVec 32 := Scf.iv c0_i32_75 c1_i32 k0_t17
  let c128_i32 : BitVec 32 := 128#32
  let v190 : BitVec 32 := Scalar.muli arg20 c128_i32
  let v191 : BitVec 32 := v190
  let v199 : Index := Scalar.indexCast v191
  let c256 : Index := 256#32
  ![v199.toNat, 256]
def k0_off20 (k0_t17 : Fin k0_t17_loop.trips) : Fin 2 → Nat :=
  let c0_i32_75 : BitVec 32 := 0#32
  let c1_i32 : BitVec 32 := 1#32
  let arg20 : BitVec 32 := Scf.iv c0_i32_75 c1_i32 k0_t17
  let c128_i32 : BitVec 32 := 128#32
  let v190 : BitVec 32 := Scalar.muli arg20 c128_i32
  let v191 : BitVec 32 := v190
  let v201 : Index := Scalar.indexCast v191
  let c384 : Index := 384#32
  ![v201.toNat, 384]
def k0_off21 (k0_t17 : Fin k0_t17_loop.trips) : Fin 3 → Nat :=
  let c0_103 : Index := 0#32
  let c0_i32_75 : BitVec 32 := 0#32
  let c1_i32 : BitVec 32 := 1#32
  let arg20 : BitVec 32 := Scf.iv c0_i32_75 c1_i32 k0_t17
  let c128_i32 : BitVec 32 := 128#32
  let v190 : BitVec 32 := Scalar.muli arg20 c128_i32
  let v191 : BitVec 32 := v190
  let v204 : Index := Scalar.indexCast v191
  let c0_104 : Index := 0#32
  ![0, v204.toNat, 0]
def k0_off22 (i : grid0.Coords) (k0_t17 : Fin k0_t17_loop.trips) : Fin 4 → Nat :=
  let arg1 : BitVec 32 := BitVec.ofNat 32 (i 1).val
  let c0_i32 : BitVec 32 := 0#32
  let v0 : BitVec 1 := Scalar.cmpi .eq arg1 c0_i32
  let c0_i32_75 : BitVec 32 := 0#32
  let c1_i32 : BitVec 32 := 1#32
  let arg20 : BitVec 32 := Scf.iv c0_i32_75 c1_i32 k0_t17
  let c0_i32_98 : BitVec 32 := 0#32
  let v192 : BitVec 1 := Scalar.cmpi .eq arg20 c0_i32_98
  let v193 : BitVec 1 := Scalar.andi v0 v192
  let c1_i32_99 : BitVec 32 := 1#32
  let c0_i32_100 : BitVec 32 := 0#32
  let v194 : BitVec 32 := Scalar.select v193 c1_i32_99 c0_i32_100
  let v211 : Index := Scalar.indexCast v194
  let c0_108 : Index := 0#32
  let c0_109 : Index := 0#32
  let c0_110 : Index := 0#32
  ![v211.toNat, 0, 0, 0]
def k0_off23 (k0_t17 : Fin k0_t17_loop.trips) : Fin 3 → Nat :=
  let c1_125 : Index := 1#32
  let c0_i32_75 : BitVec 32 := 0#32
  let c1_i32 : BitVec 32 := 1#32
  let arg20 : BitVec 32 := Scf.iv c0_i32_75 c1_i32 k0_t17
  let c128_i32 : BitVec 32 := 128#32
  let v190 : BitVec 32 := Scalar.muli arg20 c128_i32
  let v191 : BitVec 32 := v190
  let v287 : Index := Scalar.indexCast v191
  let c0_126 : Index := 0#32
  ![1, v287.toNat, 0]
def k0_off24 (i : grid0.Coords) (k0_t17 : Fin k0_t17_loop.trips) : Fin 4 → Nat :=
  let arg1 : BitVec 32 := BitVec.ofNat 32 (i 1).val
  let c0_i32 : BitVec 32 := 0#32
  let v0 : BitVec 1 := Scalar.cmpi .eq arg1 c0_i32
  let c0_i32_75 : BitVec 32 := 0#32
  let c1_i32 : BitVec 32 := 1#32
  let arg20 : BitVec 32 := Scf.iv c0_i32_75 c1_i32 k0_t17
  let c0_i32_98 : BitVec 32 := 0#32
  let v192 : BitVec 1 := Scalar.cmpi .eq arg20 c0_i32_98
  let v193 : BitVec 1 := Scalar.andi v0 v192
  let c1_i32_99 : BitVec 32 := 1#32
  let c0_i32_100 : BitVec 32 := 0#32
  let v194 : BitVec 32 := Scalar.select v193 c1_i32_99 c0_i32_100
  let v294 : Index := Scalar.indexCast v194
  let c0_130 : Index := 0#32
  let c0_131 : Index := 0#32
  let c256_132 : Index := 256#32
  ![v294.toNat, 0, 0, 256]
def k0_off25 (k0_t17 : Fin k0_t17_loop.trips) : Fin 2 → Nat :=
  let c0_i32_75 : BitVec 32 := 0#32
  let c1_i32 : BitVec 32 := 1#32
  let arg20 : BitVec 32 := Scf.iv c0_i32_75 c1_i32 k0_t17
  let c128_i32 : BitVec 32 := 128#32
  let v190 : BitVec 32 := Scalar.muli arg20 c128_i32
  let v191 : BitVec 32 := v190
  let v394 : Index := Scalar.indexCast v191
  let c512_151 : Index := 512#32
  ![v394.toNat, 512]
def k0_off26 (k0_t17 : Fin k0_t17_loop.trips) : Fin 2 → Nat :=
  let c0_i32_75 : BitVec 32 := 0#32
  let c1_i32 : BitVec 32 := 1#32
  let arg20 : BitVec 32 := Scf.iv c0_i32_75 c1_i32 k0_t17
  let c128_i32 : BitVec 32 := 128#32
  let v190 : BitVec 32 := Scalar.muli arg20 c128_i32
  let v191 : BitVec 32 := v190
  let v396 : Index := Scalar.indexCast v191
  let c640 : Index := 640#32
  ![v396.toNat, 640]
def k0_off27 (k0_t17 : Fin k0_t17_loop.trips) : Fin 2 → Nat :=
  let c0_i32_75 : BitVec 32 := 0#32
  let c1_i32 : BitVec 32 := 1#32
  let arg20 : BitVec 32 := Scf.iv c0_i32_75 c1_i32 k0_t17
  let c128_i32 : BitVec 32 := 128#32
  let v190 : BitVec 32 := Scalar.muli arg20 c128_i32
  let v191 : BitVec 32 := v190
  let v398 : Index := Scalar.indexCast v191
  let c768 : Index := 768#32
  ![v398.toNat, 768]
def k0_off28 (k0_t17 : Fin k0_t17_loop.trips) : Fin 2 → Nat :=
  let c0_i32_75 : BitVec 32 := 0#32
  let c1_i32 : BitVec 32 := 1#32
  let arg20 : BitVec 32 := Scf.iv c0_i32_75 c1_i32 k0_t17
  let c128_i32 : BitVec 32 := 128#32
  let v190 : BitVec 32 := Scalar.muli arg20 c128_i32
  let v191 : BitVec 32 := v190
  let v400 : Index := Scalar.indexCast v191
  let c896 : Index := 896#32
  ![v400.toNat, 896]
def k0_off29 (k0_t17 : Fin k0_t17_loop.trips) : Fin 3 → Nat :=
  let c2_152 : Index := 2#32
  let c0_i32_75 : BitVec 32 := 0#32
  let c1_i32 : BitVec 32 := 1#32
  let arg20 : BitVec 32 := Scf.iv c0_i32_75 c1_i32 k0_t17
  let c128_i32 : BitVec 32 := 128#32
  let v190 : BitVec 32 := Scalar.muli arg20 c128_i32
  let v191 : BitVec 32 := v190
  let v403 : Index := Scalar.indexCast v191
  let c0_153 : Index := 0#32
  ![2, v403.toNat, 0]
def k0_off30 (i : grid0.Coords) (k0_t17 : Fin k0_t17_loop.trips) : Fin 4 → Nat :=
  let arg1 : BitVec 32 := BitVec.ofNat 32 (i 1).val
  let c0_i32 : BitVec 32 := 0#32
  let v0 : BitVec 1 := Scalar.cmpi .eq arg1 c0_i32
  let c0_i32_75 : BitVec 32 := 0#32
  let c1_i32 : BitVec 32 := 1#32
  let arg20 : BitVec 32 := Scf.iv c0_i32_75 c1_i32 k0_t17
  let c0_i32_98 : BitVec 32 := 0#32
  let v192 : BitVec 1 := Scalar.cmpi .eq arg20 c0_i32_98
  let v193 : BitVec 1 := Scalar.andi v0 v192
  let c1_i32_99 : BitVec 32 := 1#32
  let c0_i32_100 : BitVec 32 := 0#32
  let v194 : BitVec 32 := Scalar.select v193 c1_i32_99 c0_i32_100
  let v410 : Index := Scalar.indexCast v194
  let c1_157 : Index := 1#32
  let c0_158 : Index := 0#32
  let c0_159 : Index := 0#32
  ![v410.toNat, 1, 0, 0]
def k0_off31 (k0_t17 : Fin k0_t17_loop.trips) : Fin 3 → Nat :=
  let c3_172 : Index := 3#32
  let c0_i32_75 : BitVec 32 := 0#32
  let c1_i32 : BitVec 32 := 1#32
  let arg20 : BitVec 32 := Scf.iv c0_i32_75 c1_i32 k0_t17
  let c128_i32 : BitVec 32 := 128#32
  let v190 : BitVec 32 := Scalar.muli arg20 c128_i32
  let v191 : BitVec 32 := v190
  let v486 : Index := Scalar.indexCast v191
  let c0_173 : Index := 0#32
  ![3, v486.toNat, 0]
def k0_off32 (i : grid0.Coords) (k0_t17 : Fin k0_t17_loop.trips) : Fin 4 → Nat :=
  let arg1 : BitVec 32 := BitVec.ofNat 32 (i 1).val
  let c0_i32 : BitVec 32 := 0#32
  let v0 : BitVec 1 := Scalar.cmpi .eq arg1 c0_i32
  let c0_i32_75 : BitVec 32 := 0#32
  let c1_i32 : BitVec 32 := 1#32
  let arg20 : BitVec 32 := Scf.iv c0_i32_75 c1_i32 k0_t17
  let c0_i32_98 : BitVec 32 := 0#32
  let v192 : BitVec 1 := Scalar.cmpi .eq arg20 c0_i32_98
  let v193 : BitVec 1 := Scalar.andi v0 v192
  let c1_i32_99 : BitVec 32 := 1#32
  let c0_i32_100 : BitVec 32 := 0#32
  let v194 : BitVec 32 := Scalar.select v193 c1_i32_99 c0_i32_100
  let v493 : Index := Scalar.indexCast v194
  let c1_177 : Index := 1#32
  let c0_178 : Index := 0#32
  let c256_179 : Index := 256#32
  ![v493.toNat, 1, 0, 256]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x256 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x256 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== AttnIdeal.lean ====
variable {F : FTy → Type} [FloatOps F] [Named F]
def κ : String → Option EReal := fun
  | "mask" => some ⊥
  | _ => none
-- ==== Proof.Rows.lean ====
/-
  Rows of extended reals: the functions every call of the trunk is compared through, each stated on plain
  functions of indices, and the re-blocking of a finite sum.
-/
module

public import Idealize.ShloMosaic.Lib.Pointwise

@[expose] public section

noncomputable section

namespace Cert.Rows

open Idealize.ShloMosaic

/-- The root-mean-square normalization of a row of 1024 numbers, scaled by `g`. -/
def nrm (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- Hidden unit `f` of the gated feed-forward network on the normalized row `h`: `gate · σ(gate) · up`. -/
def hid (h : Fin 1024 → EReal) (wi : Fin 1024 → Fin 5632 → EReal) (f : Fin 2816) : EReal :=
  (∑ k : Fin 1024, h k * wi k ⟨f, by omega⟩) * Ideal.logistic (∑ k : Fin 1024, h k * wi k ⟨f, by omega⟩)
    * (∑ k : Fin 1024, h k * wi k ⟨2816 + f, by omega⟩)

/-- One row of the residual feed-forward layer. -/
def ffn (x g : Fin 1024 → EReal) (wi : Fin 1024 → Fin 5632 → EReal) (wo : Fin 2816 → Fin 1024 → EReal) (d : Fin 1024) : EReal :=
  x d + Ideal.ofBits .f32 0x3F000000#32 * ∑ f : Fin 2816, hid (nrm x g) wi f * wo f d

/-- A sum over `n · m` indices, block by block. -/
theorem sum_blocks {N n m : Nat} (hN : N = n * m) (T : Fin N → EReal) :
    ∑ f, T f = ∑ i : Fin n, ∑ f : Fin m, T ⟨i.val * m + f.val, by
      have := i.isLt; have := f.isLt; subst hN; nlinarith⟩ := by
  subst hN
  rw [← Fintype.sum_prod_type', ← Equiv.sum_comp finProdFinEquiv]
  refine Finset.sum_congr rfl fun p _ => congrArg T (Fin.ext ?_)
  show p.2.val + m * p.1.val = p.1.val * m + p.2.val
  rw [Nat.mul_comm, Nat.add_comm]

/-- A sum over 2816 indices, as the eleven sums of 256 taken one after the other. -/
theorem sum_eleven (T : Fin 2816 → EReal) :
    ∑ f, T f = (((((((((((∑ f : Fin 256, T ⟨0 + f.val, by omega⟩) + ∑ f : Fin 256, T ⟨256 + f.val, by omega⟩)
      + ∑ f : Fin 256, T ⟨512 + f.val, by omega⟩) + ∑ f : Fin 256, T ⟨768 + f.val, by omega⟩)
      + ∑ f : Fin 256, T ⟨1024 + f.val, by omega⟩) + ∑ f : Fin 256, T ⟨1280 + f.val, by omega⟩)
      + ∑ f : Fin 256, T ⟨1536 + f.val, by omega⟩) + ∑ f : Fin 256, T ⟨1792 + f.val, by omega⟩)
      + ∑ f : Fin 256, T ⟨2048 + f.val, by omega⟩) + ∑ f : Fin 256, T ⟨2304 + f.val, by omega⟩)
      + ∑ f : Fin 256, T ⟨2560 + f.val, by omega⟩) := by
  have key : ∀ S : Fin 11 → EReal, ∑ i, S i
      = S 0 + S 1 + S 2 + S 3 + S 4 + S 5 + S 6 + S 7 + S 8 + S 9 + S 10 := by
    intro S
    simp only [Fin.sum_univ_castSucc, Fin.sum_univ_zero, zero_add]
    rfl
  rw [sum_blocks (n := 11) (m := 256) rfl T]
  exact key _

end Cert.Rows

end
-- ==== Proof.FfnBlock.lean ====
/-
  The feed-forward kernel's body on one block of 512 rows: what it stores, read row by row.
-/
module

public import proofs.«01_k».proof.Proof.Gen.KernelIdeal.Frame
public import proofs.«01_k».proof.Proof.Rows
public import Idealize.ShloMosaic.Lib.Pointwise

@[expose] public section

set_option maxRecDepth 16384

noncomputable section

namespace Cert.KernelIdeal.FfnValue

open Cert.KernelIdeal Cert.KernelIdeal.Gen Idealize.ShloMosaic Idealize.ShloMosaic.TcCoe Idealize.SL.Sem Cert.Rows

/-- One 256-wide chunk of the feed-forward network: gate and up products, the activation, and the product back. -/
def chunk (h : FVec Ideal S512x1024 .bf16) (wg wu : FVec Ideal S1024x256 .bf16) (wo : FVec Ideal S256x1024 .bf16) :
    FVec Ideal S512x1024 .f32 :=
  matmul dot_S512x256_S256x1024_S512x1024_1_0_0_1_n_n none
    (truncf .bf16
      (mulf
        (mulf (matmul dot_S512x1024_S1024x256_S512x256_1_0_0_1_n_n none h wg (constant S512x256 .f32 0x00000000#32))
          (logistic (matmul dot_S512x1024_S1024x256_S512x256_1_0_0_1_n_n none h wg (constant S512x256 .f32 0x00000000#32))))
        (matmul dot_S512x1024_S1024x256_S512x256_1_0_0_1_n_n none h wu (constant S512x256 .f32 0x00000000#32)))
      bitsLt_bf16_f32)
    wo (constant S512x1024 .f32 0x00000000#32)

/-- A chunk at row `r`, column `d`: the sum over its 256 hidden units. -/
theorem chunk_apply (h : FVec Ideal S512x1024 .bf16) (wg wu : FVec Ideal S1024x256 .bf16) (wo : FVec Ideal S256x1024 .bf16)
    (r : Fin 512) (d : Fin 1024) :
    chunk h wg wu wo (ix2 r d)
      = ∑ f : Fin 256, ((∑ k : Fin 1024, h (ix2 r k) * wg (ix2 k f)) * Ideal.logistic (∑ k : Fin 1024, h (ix2 r k) * wg (ix2 k f))
          * (∑ k : Fin 1024, h (ix2 r k) * wu (ix2 k f))) * wo (ix2 f d) := by
  pointwise [chunk]

/-- The normalized block at row `r`, column `k`. -/
theorem norm_apply (x : Vec Ideal S512x1024 .f32) (g : Vec Ideal S1x1024 .f32) (r : Fin 512) (k : Fin 1024) :
    k0_pay3 x g (ix2 r k) = nrm (fun k => x (ix2 r k)) (fun k => g (ix2 0 k)) k := by
  pointwise [k0_pay3, k0_pay2, nrm]

/-- The chunks the body adds, in its own order. -/
theorem out_chunks (x0 : Vec Ideal S512x1024 .f32) (x1 : Vec Ideal S1x1024 .f32) (x2 : Vec Ideal S1024x5632 .bf16) (x3 : Vec Ideal S2816x1024 .bf16) :
    out0_4 x0 x1 x2 x3 =
      addf (View.ld x0 r0_0) (mulf (broadcast S512x1024 (Scalar.ofBits .f32 0x3F000000#32)) (addf (addf (addf (addf (addf (addf (addf (addf (addf (addf
        (chunk (k0_pay3 (View.ld x0 r0_0) (View.ld x1 r0_1)) (View.ld x2 r0_2) (View.ld x2 r0_3) (View.ld x3 r0_4))
        (chunk (k0_pay3 (View.ld x0 r0_0) (View.ld x1 r0_1)) (View.ld x2 r0_5) (View.ld x2 r0_6) (View.ld x3 r0_7)))
        (chunk (k0_pay3 (View.ld x0 r0_0) (View.ld x1 r0_1)) (View.ld x2 r0_8) (View.ld x2 r0_9) (View.ld x3 r0_10)))
        (chunk (k0_pay3 (View.ld x0 r0_0) (View.ld x1 r0_1)) (View.ld x2 r0_11) (View.ld x2 r0_12) (View.ld x3 r0_13)))
        (chunk (k0_pay3 (View.ld x0 r0_0) (View.ld x1 r0_1)) (View.ld x2 r0_14) (View.ld x2 r0_15) (View.ld x3 r0_16)))
        (chunk (k0_pay3 (View.ld x0 r0_0) (View.ld x1 r0_1)) (View.ld x2 r0_17) (View.ld x2 r0_18) (View.ld x3 r0_19)))
        (chunk (k0_pay3 (View.ld x0 r0_0) (View.ld x1 r0_1)) (View.ld x2 r0_20) (View.ld x2 r0_21) (View.ld x3 r0_22)))
        (chunk (k0_pay3 (View.ld x0 r0_0) (View.ld x1 r0_1)) (View.ld x2 r0_23) (View.ld x2 r0_24) (View.ld x3 r0_25)))
        (chunk (k0_pay3 (View.ld x0 r0_0) (View.ld x1 r0_1)) (View.ld x2 r0_26) (View.ld x2 r0_27) (View.ld x3 r0_28)))
        (chunk (k0_pay3 (View.ld x0 r0_0) (View.ld x1 r0_1)) (View.ld x2 r0_29) (View.ld x2 r0_30) (View.ld x3 r0_31)))
        (chunk (k0_pay3 (View.ld x0 r0_0) (View.ld x1 r0_1)) (View.ld x2 r0_32) (View.ld x2 r0_33) (View.ld x3 r0_34)))) := by
  have hz : (![0, 0] : Fin 2 → Nat) = fun _ => 0 := funext fun a => by fin_cases a <;> rfl
  unfold_out out0_4
  rw [View.canon_unit_zero hz]
  unfold k0_pay1 k0_pay12 k0_pay10 k0_pay8 k0_pay7 k0_pay4 k0_pay5 k0_pay6 k0_pay9 k0_pay11 k0_pay13 k0_pay2
  unfold chunk
  generalize k0_pay3 (View.ld x0 r0_0) (View.ld x1 r0_1) = h
  simp only [shapeCast_self]

/-- A chunk whose weights are columns `o …` and `u …` of the first weight and rows `o …` of the second, at row `r` and
    column `d`: the sum over hidden units `o … o + 255`. -/
theorem chunk_hid (x0 : Vec Ideal S512x1024 .f32) (x1 : Vec Ideal S1x1024 .f32) (x2 : Vec Ideal S1024x5632 .bf16)
    (x3 : Vec Ideal S2816x1024 .bf16) (r : Fin 512) (d : Fin 1024) (o u : Nat) (ho : o + 256 ≤ 2816) (hu : u = 2816 + o)
    (wg wu : FVec Ideal S1024x256 .bf16) (wo : FVec Ideal S256x1024 .bf16)
    (eg : ∀ (k : Fin 1024) (f : Fin 256), wg (ix2 k f) = x2 (ix2 k ⟨o + f, by omega⟩))
    (eu : ∀ (k : Fin 1024) (f : Fin 256), wu (ix2 k f) = x2 (ix2 k ⟨u + f, by omega⟩))
    (eo : ∀ (f : Fin 256), wo (ix2 f d) = x3 (ix2 ⟨o + f, by omega⟩ d)) :
    chunk (k0_pay3 x0 x1) wg wu wo (ix2 r d)
      = ∑ f : Fin 256, hid (nrm (fun k => x0 (ix2 r k)) (fun k => x1 (ix2 0 k))) (fun k f => x2 (ix2 k f)) ⟨o + f, by omega⟩
          * x3 (ix2 ⟨o + f, by omega⟩ d) := by
  subst hu
  rw [chunk_apply]
  refine Finset.sum_congr rfl fun f _ => ?_
  simp only [norm_apply, eg, eu, eo, hid, Nat.add_assoc]

/-- What the body stores for a block, at row `r` and column `d`: the feed-forward layer of the block's row `r`. -/
theorem out_apply (x0 : Vec Ideal S512x1024 .f32) (x1 : Vec Ideal S1x1024 .f32) (x2 : Vec Ideal S1024x5632 .bf16) (x3 : Vec Ideal S2816x1024 .bf16)
    (r : Fin 512) (d : Fin 1024) :
    out0_4 x0 x1 x2 x3 (ix2 r d)
      = ffn (fun k => x0 (ix2 r k)) (fun k => x1 (ix2 0 k)) (fun k f => x2 (ix2 k f)) (fun f d => x3 (ix2 f d)) d := by
  have hz : (![0, 0] : Fin 2 → Nat) = fun _ => 0 := funext fun a => by fin_cases a <;> rfl
  rw [out_chunks]
  unfold ffn
  rw [sum_eleven, View.ld_unit_zero hz, View.ld_unit_zero hz]
  have e0 := chunk_hid x0 x1 x2 x3 r d 0 2816 (by decide) rfl (View.ld x2 r0_2) (View.ld x2 r0_3) (View.ld x3 r0_4)
    (fun k f => by pointwise []) (fun k f => by pointwise []) (fun f => by pointwise [])
  have e1 := chunk_hid x0 x1 x2 x3 r d 256 3072 (by decide) rfl (View.ld x2 r0_5) (View.ld x2 r0_6) (View.ld x3 r0_7)
    (fun k f => by pointwise []) (fun k f => by pointwise []) (fun f => by pointwise [])
  have e2 := chunk_hid x0 x1 x2 x3 r d 512 3328 (by decide) rfl (View.ld x2 r0_8) (View.ld x2 r0_9) (View.ld x3 r0_10)
    (fun k f => by pointwise []) (fun k f => by pointwise []) (fun f => by pointwise [])
  have e3 := chunk_hid x0 x1 x2 x3 r d 768 3584 (by decide) rfl (View.ld x2 r0_11) (View.ld x2 r0_12) (View.ld x3 r0_13)
    (fun k f => by pointwise []) (fun k f => by pointwise []) (fun f => by pointwise [])
  have e4 := chunk_hid x0 x1 x2 x3 r d 1024 3840 (by decide) rfl (View.ld x2 r0_14) (View.ld x2 r0_15) (View.ld x3 r0_16)
    (fun k f => by pointwise []) (fun k f => by pointwise []) (fun f => by pointwise [])
  have e5 := chunk_hid x0 x1 x2 x3 r d 1280 4096 (by decide) rfl (View.ld x2 r0_17) (View.ld x2 r0_18) (View.ld x3 r0_19)
    (fun k f => by pointwise []) (fun k f => by pointwise []) (fun f => by pointwise [])
  have e6 := chunk_hid x0 x1 x2 x3 r d 1536 4352 (by decide) rfl (View.ld x2 r0_20) (View.ld x2 r0_21) (View.ld x3 r0_22)
    (fun k f => by pointwise []) (fun k f => by pointwise []) (fun f => by pointwise [])
  have e7 := chunk_hid x0 x1 x2 x3 r d 1792 4608 (by decide) rfl (View.ld x2 r0_23) (View.ld x2 r0_24) (View.ld x3 r0_25)
    (fun k f => by pointwise []) (fun k f => by pointwise []) (fun f => by pointwise [])
  have e8 := chunk_hid x0 x1 x2 x3 r d 2048 4864 (by decide) rfl (View.ld x2 r0_26) (View.ld x2 r0_27) (View.ld x3 r0_28)
    (fun k f => by pointwise []) (fun k f => by pointwise []) (fun f => by pointwise [])
  have e9 := chunk_hid x0 x1 x2 x3 r d 2304 5120 (by decide) rfl (View.ld x2 r0_29) (View.ld x2 r0_30) (View.ld x3 r0_31)
    (fun k f => by pointwise []) (fun k f => by pointwise []) (fun f => by pointwise [])
  have e10 := chunk_hid x0 x1 x2 x3 r d 2560 5376 (by decide) rfl (View.ld x2 r0_32) (View.ld x2 r0_33) (View.ld x3 r0_34)
    (fun k f => by pointwise []) (fun k f => by pointwise []) (fun f => by pointwise [])
  rw [← e0, ← e1, ← e2, ← e3, ← e4, ← e5, ← e6, ← e7, ← e8, ← e9, ← e10]
  rfl

end Cert.KernelIdeal.FfnValue

end
-- ==== Proof.FfnArray.lean ====
/-
  The feed-forward kernel's result array, index by index.
-/
module

public import proofs.«01_k».proof.Proof.Gen.KernelIdeal.Value
public import proofs.«01_k».proof.Proof.FfnBlock
public import Idealize.ShloMosaic.Lib.Pipeline.Value
public import Idealize.ShloMosaic.Lib.Claim

@[expose] public section

set_option maxRecDepth 16384

noncomputable section

namespace Cert.KernelIdeal.FfnValue

open Cert.KernelIdeal Cert.KernelIdeal.Gen Idealize.ShloMosaic Idealize.ShloMosaic.TcCoe Idealize.SL.Sem Cert.Rows

variable (m : (ℓ : Loc nD τ sig) → Buf (Elt Ideal) ℓ) (ρ : Dev nD → PrngReg)

/-- Row `i` of the flattened input: batch `i / 8192`, position `i % 8192`. -/
abbrev rowOf (c : Dev nD) (i : Fin 65536) (k : Fin 1024) : EReal :=
  m ((c : Thread nD τ).loc main_arg0) (ix3 (⟨i.val / 8192, by omega⟩ : Fin 8) (⟨i.val % 8192, by omega⟩ : Fin 8192) k)

/-- The result array: every row is the residual feed-forward layer of the input's row. -/
def result (c : Dev nD) : Buf (Elt Ideal) ((c : Thread nD τ).loc main_v4) := fun i =>
  ffn (rowOf m c (i 0)) (fun k => m ((c : Thread nD τ).loc main_arg1) (ix1 k))
    (fun k f => m ((c : Thread nD τ).loc main_arg2) (ix2 k f)) (fun f d => m ((c : Thread nD τ).loc main_arg3) (ix2 f d)) (i 1)

/-- Where the windows of point `t` sit: input and output rows `512·t …`, the other operands whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0)

/-- The grid has 128 points. -/
theorem lt_N (t : Fin cfg0.N) : t.val < 128 := by have := t.isLt; have h : cfg0.N = 128 := N_0; omega

/-- The flattened input, at row `i`. -/
theorem entry_x (c : Dev nD) (i : Fin 65536) (k : Fin 1024) :
    V m c main_v0 (ix2 i k : S65536x1024.Idx) = rowOf m c i k := by
  entry_read
  pointwise []

/-- The scale as a one-row matrix. -/
theorem entry_g (c : Dev nD) (k : Fin 1024) :
    V m c main_v1 (ix2 0 k : S1x1024.Idx) = m ((c : Thread nD τ).loc main_arg1) (ix1 k) := by
  entry_read
  pointwise []

/-- The first weight, rounded: the weight itself. -/
theorem entry_wi (c : Dev nD) (k : Fin 1024) (f : Fin 5632) :
    V m c main_v2 (ix2 k f : S1024x5632.Idx) = m ((c : Thread nD τ).loc main_arg2) (ix2 k f) := by
  entry_read
  pointwise []

/-- The second weight, rounded: the weight itself. -/
theorem entry_wo (c : Dev nD) (f : Fin 2816) (d : Fin 1024) :
    V m c main_v3 (ix2 f d : S2816x1024.Idx) = m ((c : Thread nD τ).loc main_arg3) (ix2 f d) := by
  entry_read
  pointwise []

/-- The input block at point `t`, row `r`: row `512·t + r` of the flattened input. -/
theorem iblk0 (c : Dev nD) (t : Fin cfg0.N) (r : Fin 512) (k : Fin 1024) :
    (iblk m c 0 t : Vec Ideal S512x1024 .f32) (ix2 r k) = rowOf m c ⟨t.val * 512 + r.val, by have := lt_N t; omega⟩ k := by
  have hi := idx_facts t
  have ht := lt_N t
  have e : ((cfg0.win 0).blk t).view.emb (ix2 r k) = (ix2 (⟨t.val * 512 + r.val, by omega⟩ : Fin 65536) k : S65536x1024.Idx) := by
    funext a
    apply Fin.ext
    match a with
    | ⟨0, _⟩ => show win0_0.index t (0 : Fin 2) * 512 + 1 * r.val = t.val * 512 + r.val; rw [hi.1]; omega
    | ⟨1, _⟩ => show win0_0.index t (1 : Fin 2) * 1024 + 1 * k.val = k.val; rw [hi.2.1]; omega
  show V m c main_v0 (((cfg0.win 0).blk t).view.emb (ix2 r k)) = _
  rw [e, entry_x]

/-- The scale's block is the scale. -/
theorem iblk1 (c : Dev nD) (t : Fin cfg0.N) (k : Fin 1024) :
    (iblk m c 1 t : Vec Ideal S1x1024 .f32) (ix2 0 k) = m ((c : Thread nD τ).loc main_arg1) (ix1 k) := by
  have hi := idx_facts t
  have e : ((cfg0.win 1).blk t).view.emb (ix2 0 k) = (ix2 0 k : S1x1024.Idx) := by
    funext a
    apply Fin.ext
    match a with
    | ⟨0, _⟩ => show win0_1.index t (0 : Fin 2) * 1 + 1 * 0 = 0; rw [hi.2.2.1]
    | ⟨1, _⟩ => show win0_1.index t (1 : Fin 2) * 1024 + 1 * k.val = k.val; rw [hi.2.2.2.1]; omega
  show V m c main_v1 (((cfg0.win 1).blk t).view.emb (ix2 0 k)) = _
  rw [e, entry_g]

/-- The first weight's block is the weight. -/
theorem iblk2 (c : Dev nD) (t : Fin cfg0.N) (k : Fin 1024) (f : Fin 5632) :
    (iblk m c 2 t : Vec Ideal S1024x5632 .bf16) (ix2 k f) = m ((c : Thread nD τ).loc main_arg2) (ix2 k f) := by
  have hi := idx_facts t
  have e : ((cfg0.win 2).blk t).view.emb (ix2 k f) = (ix2 k f : S1024x5632.Idx) := by
    funext a
    apply Fin.ext
    match a with
    | ⟨0, _⟩ => show win0_2.index t (0 : Fin 2) * 1024 + 1 * k.val = k.val; rw [hi.2.2.2.2.1]; omega
    | ⟨1, _⟩ => show win0_2.index t (1 : Fin 2) * 5632 + 1 * f.val = f.val; rw [hi.2.2.2.2.2.1]; omega
  show V m c main_v2 (((cfg0.win 2).blk t).view.emb (ix2 k f)) = _
  rw [e, entry_wi]

/-- The second weight's block is the weight. -/
theorem iblk3 (c : Dev nD) (t : Fin cfg0.N) (f : Fin 2816) (d : Fin 1024) :
    (iblk m c 3 t : Vec Ideal S2816x1024 .bf16) (ix2 f d) = m ((c : Thread nD τ).loc main_arg3) (ix2 f d) := by
  have hi := idx_facts t
  have e : ((cfg0.win 3).blk t).view.emb (ix2 f d) = (ix2 f d : S2816x1024.Idx) := by
    funext a
    apply Fin.ext
    match a with
    | ⟨0, _⟩ => show win0_3.index t (0 : Fin 2) * 2816 + 1 * f.val = f.val; rw [hi.2.2.2.2.2.2.1]; omega
    | ⟨1, _⟩ => show win0_3.index t (1 : Fin 2) * 1024 + 1 * d.val = d.val; rw [hi.2.2.2.2.2.2.2.1]; omega
  show V m c main_v3 (((cfg0.win 3).blk t).view.emb (ix2 f d)) = _
  rw [e, entry_wo]

/-- What point `t` writes back is block `t` of the result. -/
theorem flushed_eq (c : Dev nD) (t : Fin cfg0.N) :
    (dats m 0 c).flushed 4 t = ((cfg0.win 4).blk t).view.read (Elt Ideal) (result m c) := by
  have hi := idx_facts t
  have ht := lt_N t
  rw [Value.flushed4]
  refine funext fun (j : S512x1024.Idx) => ?_
  obtain ⟨r, d, rfl⟩ : ∃ (r : Fin 512) (d : Fin 1024), j = ix2 r d := ⟨j 0, j 1, eq_ix2 j⟩
  have e : ((cfg0.win 4).blk t).view.emb (ix2 r d) = (ix2 (⟨t.val * 512 + r.val, by omega⟩ : Fin 65536) d : S65536x1024.Idx) := by
    funext a
    apply Fin.ext
    match a with
    | ⟨0, _⟩ => show win0_4.index t (0 : Fin 2) * 512 + 1 * r.val = t.val * 512 + r.val; rw [hi.2.2.2.2.2.2.2.2.1]; omega
    | ⟨1, _⟩ => show win0_4.index t (1 : Fin 2) * 1024 + 1 * d.val = d.val; rw [hi.2.2.2.2.2.2.2.2.2]; omega
  show out0_4 (iblk m c 0 t) (iblk m c 1 t) (iblk m c 2 t) (iblk m c 3 t) (ix2 r d)
    = result m c (((cfg0.win 4).blk t).view.emb (ix2 r d))
  rw [e, out_apply]
  simp only [iblk0, iblk1, iblk2, iblk3]
  rfl

/-- An index is in point `t`'s block of the result exactly when its row is in rows `512·t … 512·t + 511`. -/
theorem mem_blk (t : Fin cfg0.N) (i : S65536x1024.Idx) :
    i ∈ ((cfg0.win 4).blk t).view.set ↔ t.val * 512 ≤ (i 0 : Nat) ∧ (i 0 : Nat) < t.val * 512 + 512 := by
  have hi := idx_facts t
  show i ∈ ((View.whole main_v4).slice (win0_4.rect t)).set ↔ _
  rw [View.set_slice_whole, Rect.mem_set_unit]
  have h1 : (i 1 : Nat) < 1024 := (i 1).isLt
  refine ⟨fun h => ?_, fun h a => ?_⟩
  · have : win0_4.index t (0 : Fin 2) * 512 ≤ (i 0 : Nat) ∧ (i 0 : Nat) < win0_4.index t (0 : Fin 2) * 512 + 512 := h 0
    rw [hi.2.2.2.2.2.2.2.2.1] at this; exact this
  · match a with
    | ⟨0, _⟩ => show win0_4.index t (0 : Fin 2) * 512 ≤ (i 0 : Nat) ∧ (i 0 : Nat) < win0_4.index t (0 : Fin 2) * 512 + 512
                rw [hi.2.2.2.2.2.2.2.2.1]; exact h
    | ⟨1, _⟩ => show win0_4.index t (1 : Fin 2) * 1024 ≤ (i 1 : Nat) ∧ (i 1 : Nat) < win0_4.index t (1 : Fin 2) * 1024 + 1024
                rw [hi.2.2.2.2.2.2.2.2.2, Nat.zero_mul, Nat.zero_add]; exact ⟨Nat.zero_le _, h1⟩

/-- The blocks tile the result array. -/
theorem cover (i : S65536x1024.Idx) :
    ∃ t : Fin cfg0.N, (cfg0.win 4).flush t = true ∧ i ∈ ((cfg0.win 4).blk t).view.set := by
  have h0 : (i 0 : Nat) < 65536 := (i 0).isLt
  have hN : cfg0.N = 128 := N_0
  refine ⟨⟨(i 0 : Nat) / 512, by omega⟩, flush0_4 _, ?_⟩
  rw [mem_blk]
  dsimp only
  omega

/-- The result array after the run. -/
theorem final (c : Dev nD) : (dats m 0 c).arrAt 4 cfg0.N = result m c :=
  (dats m 0 c).arrAt_eq_of_cover 4 (result m c) (fun t _ => flushed_eq m c t) cover

/-- The kernel's run: the result array holds the layer of the arguments, which are unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.FfnValue

end
-- ==== Proof.FfnClaim.lean ====
/-
  The feed-forward kernel computes the reference's feed-forward layer.
-/
module

public import proofs.«01_k».proof.Defs
public import proofs.«01_k».proof.Proof.Gen.ReferenceIdeal.Run
public import proofs.«01_k».proof.Proof.FfnArray
public import Idealize.ShloMosaic.Lib.Quiescent

@[expose] public section

set_option maxRecDepth 16384

noncomputable section

namespace Cert.ReferenceIdeal.FfnValue

open Cert.ReferenceIdeal Cert.ReferenceIdeal.Gen Idealize.ShloMosaic Idealize.ShloMosaic.TcCoe Idealize.SL.Sem Cert.Rows

/-- The reference's normalized input. -/
def nrmV (x : FVec Ideal S8x8192x1024 .f32) (g : FVec Ideal S1024 .f32) : FVec Ideal S8x8192x1024 .f32 :=
  mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))

/-- It at an index: the row's normalization. -/
theorem nrmV_apply (x : FVec Ideal S8x8192x1024 .f32) (g : FVec Ideal S1024 .f32) (b : Fin 8) (s : Fin 8192) (k : Fin 1024) :
    nrmV x g (ix3 b s k) = nrm (fun k => x (ix3 b s k)) (fun k => g (ix1 k)) k := by
  pointwise [nrmV, nrm]

/-- The reference's first product. -/
def upV (h : FVec Ideal S8x8192x1024 .f32) (wi : FVec Ideal S1024x5632 .f32) : FVec Ideal S8x8192x5632 .f32 :=
  Host.dotGeneral dot_S8x8192x1024_S1024x5632_S8x8192x5632_2_0_01_1_n_n none h wi

/-- It at an index. -/
theorem upV_apply (h : FVec Ideal S8x8192x1024 .f32) (wi : FVec Ideal S1024x5632 .f32) (b : Fin 8) (s : Fin 8192) (f : Fin 5632) :
    upV h wi (ix3 b s f) = ∑ k : Fin 1024, h (ix3 b s k) * wi (ix2 k f) := by
  pointwise [upV]

/-- The reference's hidden units, from the first product. -/
def hidV (u : FVec Ideal S8x8192x5632 .f32) : FVec Ideal S8x8192x2816 .f32 :=
  mulf (mulf (extractStridedSlice S8x8192x2816 ![0, 0, 0] u slices_S8x8192x5632_S8x8192x2816_0_0_0)
    (Host.divf (broadcastInDim S8x8192x2816 ![] bcast_S_S8x8192x2816 (constant S_ .f32 0x3F800000#32)) (addf (broadcastInDim S8x8192x2816 ![] bcast_S_S8x8192x2816 (constant S_ .f32 0x3F800000#32)) (Host.exp (Host.negf (extractStridedSlice S8x8192x2816 ![0, 0, 0] u slices_S8x8192x5632_S8x8192x2816_0_0_0))))))
    (extractStridedSlice S8x8192x2816 ![0, 0, 2816] u slices_S8x8192x5632_S8x8192x2816_0_0_2816)

/-- They at an index. -/
theorem hidV_apply (u : FVec Ideal S8x8192x5632 .f32) (b : Fin 8) (s : Fin 8192) (f : Fin 2816) :
    hidV u (ix3 b s f) = u (ix3 b s ⟨f, by omega⟩) * Ideal.logistic (u (ix3 b s ⟨f, by omega⟩)) * u (ix3 b s ⟨2816 + f, by omega⟩) := by
  pointwise [hidV]
  rfl

/-- The reference's result, from the hidden units. -/
def outV (x : FVec Ideal S8x8192x1024 .f32) (a : FVec Ideal S8x8192x2816 .f32) (wo : FVec Ideal S2816x1024 .f32) : FVec Ideal S65536x1024 .f32 :=
  shapeCast _ (addf x (mulf (broadcastInDim S8x8192x1024 ![] bcast_S_S8x8192x1024 (constant S_ .f32 0x3F000000#32)) (Host.dotGeneral dot_S8x8192x2816_S2816x1024_S8x8192x1024_2_0_01_1_n_n none a wo))) shapeCasts_S8x8192x1024_S65536x1024

/-- It at an index. -/
theorem outV_apply (x : FVec Ideal S8x8192x1024 .f32) (a : FVec Ideal S8x8192x2816 .f32) (wo : FVec Ideal S2816x1024 .f32) (i : Fin 65536) (d : Fin 1024) :
    outV x a wo (ix2 i d) = x (ix3 (⟨i.val / 8192, by omega⟩ : Fin 8) (⟨i.val % 8192, by omega⟩ : Fin 8192) d)
      + Ideal.ofBits .f32 0x3F000000#32 * ∑ f : Fin 2816, a (ix3 (⟨i.val / 8192, by omega⟩ : Fin 8) (⟨i.val % 8192, by omega⟩ : Fin 8192) f) * wo (ix2 f d) := by
  pointwise [outV]

/-- The reference at an index. -/
theorem ref_apply (x : FVec Ideal S8x8192x1024 .f32) (g : FVec Ideal S1024 .f32) (wi : FVec Ideal S1024x5632 .f32) (wo : FVec Ideal S2816x1024 .f32)
    (i : Fin 65536) (d : Fin 1024) :
    outV x (hidV (upV (nrmV x g) wi)) wo (ix2 i d)
      = ffn (fun k => x (ix3 (⟨i.val / 8192, by omega⟩ : Fin 8) (⟨i.val % 8192, by omega⟩ : Fin 8192) k)) (fun k => g (ix1 k))
          (fun k f => wi (ix2 k f)) (fun f d => wo (ix2 f d)) d := by
  rw [outV_apply]
  simp only [hidV_apply, upV_apply, nrmV_apply, ffn, hid]

end Cert.ReferenceIdeal.FfnValue

namespace Cert.FfnClaim

open Idealize.ShloMosaic Idealize.ShloMosaic.TcCoe Idealize.SL.Sem Cert.Rows

/-- The reference runs, leaves its arguments and every semaphore as it found them. -/
theorem frame_ref [Cert.ReferenceIdeal.Facts] : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The two idealized programs end with the same result array. -/
theorem algebraic [Cert.KernelIdeal.Facts] [Cert.ReferenceIdeal.Facts] : Cert.algebraic_KernelIdeal_ReferenceIdeal := by
  pair_intro
  · run_from Cert.KernelIdeal.FfnValue.run m g
  · run_from Cert.ReferenceIdeal.Value.run m' g'
    refine funext fun (j : Cert.KernelIdeal.S65536x1024.Idx) => ?_
    obtain ⟨i, d, rfl⟩ : ∃ (i : Fin 65536) (d : Fin 1024), j = ix2 i d := ⟨j 0, j 1, eq_ix2 j⟩
    exact Cert.ReferenceIdeal.FfnValue.ref_apply _ _ _ _ i d

end Cert.FfnClaim

end
-- ==== Proof.ConvBlock.lean ====
/-
  The short-convolution kernel's body on one block of 512 rows: what it stores, read row by row.
-/
module

public import proofs.«01_k».proof.Proof.Gen.ConvIdeal.Frame
public import proofs.«01_k».proof.Proof.Rows
public import Idealize.ShloMosaic.Lib.Pointwise

@[expose] public section

set_option maxRecDepth 16384

noncomputable section

namespace Cert.ConvIdeal.ConvValue

open Cert.ConvIdeal Cert.ConvIdeal.Gen Idealize.ShloMosaic Idealize.ShloMosaic.TcCoe Idealize.SL.Sem Cert.Rows

/-- The convolution of a block. -/
def convB (z : FVec Ideal S512x1024 .f32) (p : FVec Ideal S8x1024 .f32) (w0 w1 w2 : FVec Ideal S1x1024 .f32) : FVec Ideal S512x1024 .f32 :=
  concatenate S512x1024 0 [⟨S8x1024, addf (addf
      (mulf (broadcastTo S8x1024 w0 broadcasts_S1x1024_S8x1024) (select (cmpi .slt (iota .tc S8x1024 32 [0] iota_S8x1024_d0_w32) (broadcast S8x1024 2#32)) (dynamicRotate 0 2#32 none p rotates_S8x1024_d0) (extractStridedSlice S8x1024 ![0, 0] (dynamicRotate 0 2#32 none z rotates_S512x1024_d0) slices_S512x1024_o0_0_S8x1024)))
      (mulf (broadcastTo S8x1024 w1 broadcasts_S1x1024_S8x1024) (select (cmpi .slt (iota .tc S8x1024 32 [0] iota_S8x1024_d0_w32) (broadcast S8x1024 1#32)) (dynamicRotate 0 1#32 none p rotates_S8x1024_d0) (extractStridedSlice S8x1024 ![0, 0] (dynamicRotate 0 1#32 none z rotates_S512x1024_d0) slices_S512x1024_o0_0_S8x1024))))
      (mulf (broadcastTo S8x1024 w2 broadcasts_S1x1024_S8x1024) (extractStridedSlice S8x1024 ![0, 0] z slices_S512x1024_o0_0_S8x1024))⟩,
    ⟨S504x1024, addf (addf
      (mulf (broadcastTo S504x1024 w0 broadcasts_S1x1024_S504x1024) (extractStridedSlice S504x1024 ![8, 0] (dynamicRotate 0 2#32 none z rotates_S512x1024_d0) slices_S512x1024_o8_0_S504x1024))
      (mulf (broadcastTo S504x1024 w1 broadcasts_S1x1024_S504x1024) (extractStridedSlice S504x1024 ![8, 0] (dynamicRotate 0 1#32 none z rotates_S512x1024_d0) slices_S512x1024_o8_0_S504x1024)))
      (mulf (broadcastTo S504x1024 w2 broadcasts_S1x1024_S504x1024) (extractStridedSlice S504x1024 ![8, 0] z slices_S512x1024_o8_0_S504x1024))⟩] concatenates_S8x1024_S504x1024_S512x1024_d0

/-- The block convolution at row `r`: the three taps on the rows `r - 2`, `r - 1`, `r`, rows before the block read from the eight rows `p` before it. -/
theorem convB_apply (z : FVec Ideal S512x1024 .f32) (p : FVec Ideal S8x1024 .f32) (w0 w1 w2 : FVec Ideal S1x1024 .f32) (r : Fin 512) (d : Fin 1024) :
    convB z p w0 w1 w2 (ix2 r d) =
      w0 (ix2 0 d) * (if h : r.val < 2 then p (ix2 ⟨6 + r.val, by omega⟩ d) else z (ix2 ⟨r.val - 2, by omega⟩ d))
      + w1 (ix2 0 d) * (if h : r.val < 1 then p (ix2 ⟨7 + r.val, by omega⟩ d) else z (ix2 ⟨r.val - 1, by omega⟩ d))
      + w2 (ix2 0 d) * z (ix2 r d) := by
  pointwise [convB]
  have ez : ∀ (a b : Nat) (ha : a < 512) (hb : b < 512), a = b → z (ix2 ⟨a, ha⟩ d) = z (ix2 ⟨b, hb⟩ d) := by
    intro a b ha hb e; subst e; rfl
  have ep : ∀ (a b : Nat) (ha : a < 8) (hb : b < 8), a = b → p (ix2 ⟨a, ha⟩ d) = p (ix2 ⟨b, hb⟩ d) := by
    intro a b ha hb e; subst e; rfl
  have sel : ∀ (n : Nat) (a b : EReal), n < 8 →
      (Scalar.select (IntOp.cmpi CmpIPredicate.slt (BitVec.ofNat 32 n) 2#32) a b = if n < 2 then a else b)
      ∧ (Scalar.select (IntOp.cmpi CmpIPredicate.slt (BitVec.ofNat 32 n) 1#32) a b = if n < 1 then a else b) := by
    intro n a b hn
    interval_cases n <;> exact ⟨rfl, rfl⟩
  by_cases h8 : r.val < 8
  · rw [dif_pos h8, (sel _ _ _ h8).1, (sel _ _ _ h8).2]
    congr 3
    · by_cases h : r.val < 2
      · rw [if_pos h, dif_pos h]; exact ep _ _ _ _ (by omega)
      · rw [if_neg h, dif_neg h]; exact ez _ _ _ _ (by omega)
    · by_cases h : r.val < 1
      · rw [if_pos h, dif_pos h]; exact ep _ _ _ _ (by omega)
      · rw [if_neg h, dif_neg h]; exact ez _ _ _ _ (by omega)
  · have n2 : ¬ r.val < 2 := by omega
    have n1 : ¬ r.val < 1 := by omega
    rw [dif_neg h8, dif_neg n2, dif_neg n1]
    rw [ez (8 + (r.val - 8)) r.val (by omega) r.isLt (by omega),
      ez ((8 + (r.val - 8) + 512 - 2) % 512) (r.val - 2) (by omega) (by omega) (by omega),
      ez ((8 + (r.val - 8) + 512 - 1) % 512) (r.val - 1) (by omega) (by omega) (by omega)]

/-- The stored block at row `r`: the input plus the projected product of the gate and the convolution. -/
theorem pay7_eq (x : FVec Ideal S512x1024 .f32) (h : FVec Ideal S512x1024 .bf16) (z : FVec Ideal S512x1024 .f32) (p : FVec Ideal S8x1024 .f32)
    (w0 w1 w2 : FVec Ideal S1x1024 .f32) (wb wo : FVec Ideal S1024x1024 .bf16) (r : Fin 512) (d : Fin 1024) :
    k0_pay7 x h z p w0 w1 w2 wb wo (ix2 r d) =
      x (ix2 r d) + ∑ j : Fin 1024, ((∑ k : Fin 1024, h (ix2 r k) * wb (ix2 k j)) * convB z p w0 w1 w2 (ix2 r j)) * wo (ix2 j d) := by
  have e : k0_pay7 x h z p w0 w1 w2 wb wo = addf x (matmul dot_S512x1024_S1024x1024_S512x1024_1_0_0_1_n_n none
      (truncf .bf16 (mulf (matmul dot_S512x1024_S1024x1024_S512x1024_1_0_0_1_n_n none h wb (constant S512x1024 .f32 0x00000000#32)) (convB z p w0 w1 w2)) bitsLt_bf16_f32)
      wo (constant S512x1024 .f32 0x00000000#32)) := by
    unfold k0_pay7 convB
    simp only [shapeCast_self]
  rw [e]
  pointwise []

/-- The product of the second and third projections at row `r`. -/
theorem z_apply (x : Vec Ideal S1x512x1024 .f32) (g : Vec Ideal S1x1024 .f32) (w1 w2 : FVec Ideal S1024x1024 .bf16) (r : Fin 512) (d : Fin 1024) :
    k0_pay5 x g w1 w2 (ix2 r d) = (∑ k : Fin 1024, k0_pay4 x g (ix2 r k) * w1 (ix2 k d)) * (∑ k : Fin 1024, k0_pay4 x g (ix2 r k) * w2 (ix2 k d)) := by
  pointwise [k0_pay5]

/-- The normalized block at row `r`, column `k`. -/
theorem norm_apply (x : Vec Ideal S1x512x1024 .f32) (g : Vec Ideal S1x1024 .f32) (r : Fin 512) (k : Fin 1024) :
    k0_pay4 x g (ix2 r k) = nrm (fun k => x (ix3 0 r k)) (fun k => g (ix2 0 k)) k := by
  pointwise [k0_pay4, k0_pay3, nrm]

end Cert.ConvIdeal.ConvValue

end
-- ==== Proof.ConvRows.lean ====
/-
  The short-convolution mixer over the extended reals, as functions of the rows of a sequence.
-/
module

public import proofs.«01_k».proof.Proof.Rows

@[expose] public section

noncomputable section

namespace Cert.Rows

/-- The product of the second and the third projection of a row, at column `d`. -/
def zrow (h : Fin 1024 → EReal) (w : Fin 1024 → Fin 3072 → EReal) (d : Fin 1024) : EReal :=
  (∑ k : Fin 1024, h k * w k ⟨1024 + d.val, by omega⟩) * (∑ k : Fin 1024, h k * w k ⟨2048 + d.val, by omega⟩)

/-- A row of the mixer: the first projection times a three-tap combination of the rows `u`, `v`, `z`, projected and added to the input row `x`. -/
def mix (x h u v z : Fin 1024 → EReal) (w : Fin 1024 → Fin 3072 → EReal) (cw : Fin 3 → Fin 1024 → EReal) (wo : Fin 1024 → Fin 1024 → EReal)
    (d : Fin 1024) : EReal :=
  x d + ∑ j : Fin 1024, ((∑ k : Fin 1024, h k * w k ⟨j.val, by omega⟩) * (cw 0 j * u j + cw 1 j * v j + cw 2 j * z j)) * wo j d

/-- The product row `n` positions before position `s` of the sequence `X`; zero before the sequence begins. -/
def past (X : Fin 8192 → Fin 1024 → EReal) (g : Fin 1024 → EReal) (w : Fin 1024 → Fin 3072 → EReal) (s : Fin 8192) (n : Nat) (d : Fin 1024) : EReal :=
  if n ≤ s.val then zrow (nrm (X ⟨s.val - n, by omega⟩) g) w d else 0

/-- The mixer at position `s` of the sequence `X`. -/
def conv (X : Fin 8192 → Fin 1024 → EReal) (g : Fin 1024 → EReal) (w : Fin 1024 → Fin 3072 → EReal) (cw : Fin 3 → Fin 1024 → EReal)
    (wo : Fin 1024 → Fin 1024 → EReal) (s : Fin 8192) (d : Fin 1024) : EReal :=
  mix (X s) (nrm (X s) g) (past X g w s 2) (past X g w s 1) (past X g w s 0) w cw wo d

end Cert.Rows

end
-- ==== Proof.ConvCase.lean ====
/-
  The short-convolution kernel's body, case by case: what the output block and the carried rows hold after a point.
-/
module

public import proofs.«01_k».proof.Proof.ConvBlock
public import proofs.«01_k».proof.Proof.ConvRows
public import Idealize.ShloMosaic.Lib.Pipeline.Value
public import Idealize.ShloMosaic.Lib.Tactic

@[expose] public section

set_option maxRecDepth 16384

noncomputable section

namespace Cert.ConvIdeal.ConvValue

open Cert.ConvIdeal Cert.ConvIdeal.Gen Idealize.ShloMosaic Idealize.ShloMosaic.TcCoe Idealize.SL.Sem Cert.Rows

/-- A two-axis offset of zeros is the zero offset. -/
theorem hz2 : (![0, 0] : Fin 2 → Nat) = fun _ => 0 := funext fun a => by fin_cases a <;> rfl
/-- A three-axis offset of zeros is the zero offset. -/
theorem hz3 : (![0, 0, 0] : Fin 3 → Nat) = fun _ => 0 := funext fun a => by fin_cases a <;> rfl

/-- The product rows of a block, from its input rows, the scale and the projection weight. -/
def zblk (x : Vec Ideal S1x512x1024 .f32) (g : Vec Ideal S1x1024 .f32) (w : Vec Ideal S1024x3072 .bf16) : FVec Ideal S512x1024 .f32 :=
  k0_pay5 x g (View.ld w (Rect.unit ![0, 1024] ![1024, 1024] inb_S1024x3072_S1024x1024_0_1024))
    (View.ld w (Rect.unit ![0, 2048] ![1024, 1024] inb_S1024x3072_S1024x1024_0_2048))

/-- The rows a block hands to the next one: the last eight of its product rows. -/
def tail (x : Vec Ideal S1x512x1024 .f32) (g : Vec Ideal S1x1024 .f32) (w : Vec Ideal S1024x3072 .bf16) : Vec Ideal S8x1024 .f32 :=
  k0_pay6 x g (View.ld w (Rect.unit ![0, 1024] ![1024, 1024] inb_S1024x3072_S1024x1024_0_1024))
    (View.ld w (Rect.unit ![0, 2048] ![1024, 1024] inb_S1024x3072_S1024x1024_0_2048))

/-- The block the body stores, from its inputs and the eight product rows `p` before the block. -/
def oblk (x : Vec Ideal S1x512x1024 .f32) (g : Vec Ideal S1x1024 .f32) (w : Vec Ideal S1024x3072 .bf16) (cw : Vec Ideal S3x1024 .f32)
    (wo : Vec Ideal S1024x1024 .bf16) (p : FVec Ideal S8x1024 .f32) : Vec Ideal S1x512x1024 .f32 :=
  k0_pay1 (k0_pay7 (k0_pay3 x) (k0_pay4 x g) (zblk x g w) p
    (View.ld cw (Rect.unit ![0, 0] ![1, 1024] inb_S3x1024_S1x1024_0_0))
    (View.ld cw (Rect.unit ![1, 0] ![1, 1024] inb_S3x1024_S1x1024_1_0))
    (View.ld cw (Rect.unit ![2, 0] ![1, 1024] inb_S3x1024_S1x1024_2_0))
    (View.ld w (Rect.unit ![0, 0] ![1024, 1024] inb_S1024x3072_S1024x1024_0_0)) wo)

variable (c : Dev nD) (i : grid0.Coords) (a2 : Memref sig .tc .vmem S1x512x1024 .f32) (h2 : a2.IsWhole) (a3 : Memref sig .tc .vmem S1x1024 .f32) (h3 : a3.IsWhole)
  (a4 : Memref sig .tc .vmem S1024x3072 .bf16) (h4 : a4.IsWhole) (a5 : Memref sig .tc .vmem S3x1024 .f32) (h5 : a5.IsWhole) (a6 : Memref sig .tc .vmem S1024x1024 .bf16) (h6 : a6.IsWhole)
  (a7 : Memref sig .tc .vmem S1x512x1024 .f32) (h7 : a7.IsWhole) (a8 : Memref sig .tc .vmem S8x1024 .f32) (h8 : a8.IsWhole)
  (x : Vec Ideal S1x512x1024 .f32) (g : Vec Ideal S1x1024 .f32) (w : Vec Ideal S1024x3072 .bf16) (cw : Vec Ideal S3x1024 .f32) (wo : Vec Ideal S1024x1024 .bf16)

/-- After a point inside a sequence, the carried rows are the block's last product rows. -/
theorem sout_B (hc : ¬cond0_0 i) (p : Vec Ideal S8x1024 .f32) :
    sout0_B_0 c i a2 h2 a3 h3 a4 h4 a5 h5 a6 h6 a7 h7 a8 h8 hc x g w cw wo p = tail x g w := by
  unfold sout0_B_0
  rw [View.read_writes_eq_canon _ _ _ (scover0_B_0 c i a2 h2 a3 h3 a4 h4 a5 h5 a6 h6 a7 h7 a8 h8 hc x g w cw wo p)]
  unfold kernelRun0_B
  dsimp only
  sl_unfold_words
  rw [View.canon_unit_zero hz2]
  simp only [View.readAt_eq_ld, h2.read_unread, h3.read_unread, h4.read_unread, h5.read_unread, h6.read_unread, h8.read_unread, View.ld_unit_zero (S := S1x512x1024) hz3, View.ld_unit_zero (S := S1x1024) hz2, View.ld_unit_zero (S := S8x1024) hz2, View.ld_unit_zero (S := S1024x1024) hz2, shapeCast_self]
  rfl

/-- A point inside a sequence stores the block's mix over the carried rows. -/
theorem out_B (hc : ¬cond0_0 i) (p : Vec Ideal S8x1024 .f32) :
    out0_B_5 c i a2 h2 a3 h3 a4 h4 a5 h5 a6 h6 a7 h7 a8 h8 hc x g w cw wo p = oblk x g w cw wo p := by
  unfold out0_B_5
  rw [View.read_writes_eq_canon _ _ _ (cover0_B_5 c i a2 h2 a3 h3 a4 h4 a5 h5 a6 h6 a7 h7 a8 h8 hc x g w cw wo p)]
  unfold kernelRun0_B
  dsimp only
  sl_unfold_words
  rw [View.canon_unit_zero hz3]
  simp only [View.readAt_eq_ld, h2.read_unread, h3.read_unread, h4.read_unread, h5.read_unread, h6.read_unread, h8.read_unread, View.ld_unit_zero (S := S1x512x1024) hz3, View.ld_unit_zero (S := S1x1024) hz2, View.ld_unit_zero (S := S8x1024) hz2, View.ld_unit_zero (S := S1024x1024) hz2, shapeCast_self]
  rfl

/-- After a sequence's first point, too. -/
theorem sout_A (hc : cond0_0 i)  :
    sout0_A_0 c i a2 h2 a3 h3 a4 h4 a5 h5 a6 h6 a7 h7 a8 h8 hc x g w cw wo = tail x g w := by
  unfold sout0_A_0
  rw [View.read_writes_eq_canon _ _ _ (scover0_A_0 c i a2 h2 a3 h3 a4 h4 a5 h5 a6 h6 a7 h7 a8 h8 hc x g w cw wo)]
  unfold kernelRun0_A
  dsimp only
  sl_unfold_words
  rw [View.canon_cons_unit_zero (S := S8x1024) hz2]
  simp only [View.readAt_eq_ld, h2.read_unread, h3.read_unread, h4.read_unread, h5.read_unread, h6.read_unread, h8.read_unread, View.ld_unit_zero (S := S1x512x1024) hz3, View.ld_unit_zero (S := S1x1024) hz2, View.ld_unit_zero (S := S8x1024) hz2, View.ld_unit_zero (S := S1024x1024) hz2, shapeCast_self]
  rfl

/-- A sequence's first point stores the block's mix over zero rows. -/
theorem out_A (hc : cond0_0 i) :
    out0_A_5 c i a2 h2 a3 h3 a4 h4 a5 h5 a6 h6 a7 h7 a8 h8 hc x g w cw wo = oblk x g w cw wo k0_pay2 := by
  unfold out0_A_5
  rw [View.read_writes_eq_canon _ _ _ (cover0_A_5 c i a2 h2 a3 h3 a4 h4 a5 h5 a6 h6 a7 h7 a8 h8 hc x g w cw wo)]
  unfold kernelRun0_A
  dsimp only
  sl_unfold_words
  rw [View.canon_unit_zero hz3]
  simp only [View.readAt_eq_ld, h2.read_unread, h3.read_unread, h4.read_unread, h5.read_unread, h6.read_unread, h8.read_unread, View.ld_unit_zero (S := S1x512x1024) hz3, View.ld_unit_zero (S := S1x1024) hz2, View.readCov_unit_zero (S := S8x1024) _ hz2, View.ld_unit_zero (S := S8x1024) hz2, View.ld_unit_zero (S := S1024x1024) hz2, shapeCast_self]
  rfl

/-- The product rows, one by one. -/
theorem zblk_apply (r : Fin 512) (d : Fin 1024) :
    zblk x g w (ix2 r d) = zrow (nrm (fun k => x (ix3 0 r k)) (fun k => g (ix2 0 k))) (fun k j => w (ix2 k j)) d := by
  unfold zblk zrow
  rw [z_apply]
  simp only [norm_apply]
  pointwise []

/-- The rows handed on, one by one. -/
theorem tail_apply (r : Fin 8) (d : Fin 1024) :
    tail x g w (ix2 r d) = zrow (nrm (fun k => x (ix3 0 (⟨504 + r.val, by omega⟩ : Fin 512) k)) (fun k => g (ix2 0 k))) (fun k j => w (ix2 k j)) d := by
  rw [← zblk_apply]
  have e : tail x g w = extractStridedSlice S8x1024 ![504, 0] (zblk x g w) slices_S512x1024_o504_0_S8x1024 := by
    unfold tail k0_pay6 zblk
    simp only [shapeCast_self]
  rw [e]
  pointwise []

/-- The stored block, row by row. -/
theorem oblk_apply (p : FVec Ideal S8x1024 .f32) (r : Fin 512) (d : Fin 1024) :
    oblk x g w cw wo p (ix3 0 r d) = mix (fun k => x (ix3 0 r k)) (nrm (fun k => x (ix3 0 r k)) (fun k => g (ix2 0 k)))
      (fun j => if h : r.val < 2 then p (ix2 ⟨6 + r.val, by omega⟩ j) else zblk x g w (ix2 ⟨r.val - 2, by omega⟩ j))
      (fun j => if h : r.val < 1 then p (ix2 ⟨7 + r.val, by omega⟩ j) else zblk x g w (ix2 ⟨r.val - 1, by omega⟩ j))
      (fun j => zblk x g w (ix2 r j)) (fun k j => w (ix2 k j)) (fun a j => cw (ix2 a j)) (fun j d => wo (ix2 j d)) d := by
  have e : oblk x g w cw wo p (ix3 0 r d) = k0_pay7 (k0_pay3 x) (k0_pay4 x g) (zblk x g w) p
      (View.ld cw (Rect.unit ![0, 0] ![1, 1024] inb_S3x1024_S1x1024_0_0))
      (View.ld cw (Rect.unit ![1, 0] ![1, 1024] inb_S3x1024_S1x1024_1_0))
      (View.ld cw (Rect.unit ![2, 0] ![1, 1024] inb_S3x1024_S1x1024_2_0))
      (View.ld w (Rect.unit ![0, 0] ![1024, 1024] inb_S1024x3072_S1024x1024_0_0)) wo (ix2 r d) := by
    unfold oblk k0_pay1
    generalize k0_pay7 (k0_pay3 x) (k0_pay4 x g) (zblk x g w) p
      (View.ld cw (Rect.unit ![0, 0] ![1, 1024] inb_S3x1024_S1x1024_0_0))
      (View.ld cw (Rect.unit ![1, 0] ![1, 1024] inb_S3x1024_S1x1024_1_0))
      (View.ld cw (Rect.unit ![2, 0] ![1, 1024] inb_S3x1024_S1x1024_2_0))
      (View.ld w (Rect.unit ![0, 0] ![1024, 1024] inb_S1024x3072_S1024x1024_0_0)) wo = o
    pointwise []
  have e3 : k0_pay3 x (ix2 r d) = x (ix3 0 r d) := by pointwise [k0_pay3]
  rw [e, pay7_eq]
  simp only [convB_apply, norm_apply, e3]
  unfold mix
  generalize zblk x g w = z
  pointwise []

/-- The zero rows. -/
theorem pay2_apply (r : Fin 8) (d : Fin 1024) : (k0_pay2 : FVec Ideal S8x1024 .f32) (ix2 r d) = 0 := by
  pointwise [k0_pay2]

end Cert.ConvIdeal.ConvValue

end
-- ==== Proof.ConvArray.lean ====
/-
  The short-convolution kernel's result array, index by index.
-/
module

public import proofs.«01_k».proof.Proof.Gen.ConvIdeal.Value
public import proofs.«01_k».proof.Proof.ConvCase
public import Idealize.ShloMosaic.Lib.Claim

@[expose] public section

set_option maxRecDepth 16384

noncomputable section

namespace Cert.ConvIdeal.ConvValue

open Cert.ConvIdeal Cert.ConvIdeal.Gen Idealize.ShloMosaic Idealize.ShloMosaic.TcCoe Idealize.SL.Sem Cert.Rows

variable (m : (ℓ : Loc nD τ sig) → Buf (Elt Ideal) ℓ) (ρ : Dev nD → PrngReg)

/-- The input sequence `b`. -/
abbrev X (c : Dev nD) (b : Fin 8) : Fin 8192 → Fin 1024 → EReal := fun s k => m ((c : Thread nD τ).loc main_arg0) (ix3 b s k)
/-- The normalization's scale. -/
abbrev G (c : Dev nD) : Fin 1024 → EReal := fun k => m ((c : Thread nD τ).loc main_arg1) (ix1 k)
/-- The projections' weight. -/
abbrev W (c : Dev nD) : Fin 1024 → Fin 3072 → EReal := fun k j => m ((c : Thread nD τ).loc main_arg2) (ix2 k j)
/-- The convolution's taps. -/
abbrev CW (c : Dev nD) : Fin 3 → Fin 1024 → EReal := fun a j => m ((c : Thread nD τ).loc main_arg3) (ix2 a j)
/-- The output projection's weight. -/
abbrev WO (c : Dev nD) : Fin 1024 → Fin 1024 → EReal := fun j d => m ((c : Thread nD τ).loc main_arg4) (ix2 j d)

/-- The result array: the mixer of every sequence. -/
def result (c : Dev nD) : Buf (Elt Ideal) ((c : Thread nD τ).loc main_v3) := fun i =>
  conv (X m c (i 0)) (G m c) (W m c) (CW m c) (WO m c) (i 1) (i 2)

/-- Where the windows of point `t` sit: rows `512·(t mod 16) …` of sequence `t / 16`, the other operands whole. -/
theorem idx_facts : ∀ t : Fin cfg0.N,
    (win0_0.index t (0 : Fin 3) = t.val / 16 ∧ win0_0.index t (1 : Fin 3) = t.val % 16 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 16 ∧ win0_5.index t (1 : Fin 3) = t.val % 16 ∧ win0_5.index t (2 : Fin 3) = 0) :=
  (by decide +kernel : ∀ t : Fin grid0.N,
    (win0_0.index t (0 : Fin 3) = t.val / 16 ∧ win0_0.index t (1 : Fin 3) = t.val % 16 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 16 ∧ win0_5.index t (1 : Fin 3) = t.val % 16 ∧ win0_5.index t (2 : Fin 3) = 0))

/-- The grid has 128 points. -/
theorem lt_N (t : Fin cfg0.N) : t.val < 128 := by have := t.isLt; have h : cfg0.N = 128 := N_0; omega

/-- The scale as a one-row matrix. -/
theorem entry_g (c : Dev nD) (k : Fin 1024) :
    V m c main_v0 (ix2 0 k : S1x1024.Idx) = G m c k := by
  entry_read
  pointwise []

/-- The projections' weight, rounded: the weight itself. -/
theorem entry_w (c : Dev nD) (k : Fin 1024) (f : Fin 3072) :
    V m c main_v1 (ix2 k f : S1024x3072.Idx) = W m c k f := by
  entry_read
  pointwise []

/-- The output weight, rounded: the weight itself. -/
theorem entry_wo (c : Dev nD) (f : Fin 1024) (d : Fin 1024) :
    V m c main_v2 (ix2 f d : S1024x1024.Idx) = WO m c f d := by
  entry_read
  pointwise []

/-- The input block at point `t`, row `r`: position `512·(t mod 16) + r` of sequence `t / 16`. -/
theorem iblk0 (c : Dev nD) (t : Fin cfg0.N) (r : Fin 512) (k : Fin 1024) :
    (iblk m c 0 t : Vec Ideal S1x512x1024 .f32) (ix3 0 r k)
      = X m c ⟨t.val / 16, by have := lt_N t; omega⟩ ⟨t.val % 16 * 512 + r.val, by omega⟩ k := by
  have hi := (idx_facts t).1
  have ht := lt_N t
  have e : ((cfg0.win 0).blk t).view.emb (ix3 0 r k)
      = (ix3 (⟨t.val / 16, by omega⟩ : Fin 8) (⟨t.val % 16 * 512 + r.val, by omega⟩ : Fin 8192) k : S8x8192x1024.Idx) := by
    funext a
    apply Fin.ext
    match a with
    | ⟨0, _⟩ => show win0_0.index t (0 : Fin 3) * 1 + 1 * 0 = t.val / 16; rw [hi.1]; omega
    | ⟨1, _⟩ => show win0_0.index t (1 : Fin 3) * 512 + 1 * r.val = t.val % 16 * 512 + r.val; rw [hi.2.1]; omega
    | ⟨2, _⟩ => show win0_0.index t (2 : Fin 3) * 1024 + 1 * k.val = k.val; rw [hi.2.2]; omega
  show V m c main_arg0 (((cfg0.win 0).blk t).view.emb (ix3 0 r k)) = _
  rw [e, V_main_arg0]

/-- The scale's block is the scale. -/
theorem iblk1 (c : Dev nD) (t : Fin cfg0.N) (k : Fin 1024) :
    (iblk m c 1 t : Vec Ideal S1x1024 .f32) (ix2 0 k) = G m c k := by
  have hi := (idx_facts t).2.1
  have e : ((cfg0.win 1).blk t).view.emb (ix2 0 k) = (ix2 0 k : S1x1024.Idx) := by
    funext a
    apply Fin.ext
    match a with
    | ⟨0, _⟩ => show win0_1.index t (0 : Fin 2) * 1 + 1 * 0 = 0; rw [hi.1]
    | ⟨1, _⟩ => show win0_1.index t (1 : Fin 2) * 1024 + 1 * k.val = k.val; rw [hi.2]; omega
  show V m c main_v0 (((cfg0.win 1).blk t).view.emb (ix2 0 k)) = _
  rw [e, entry_g]

/-- The projections' block is the weight. -/
theorem iblk2 (c : Dev nD) (t : Fin cfg0.N) (k : Fin 1024) (f : Fin 3072) :
    (iblk m c 2 t : Vec Ideal S1024x3072 .bf16) (ix2 k f) = W m c k f := by
  have hi := (idx_facts t).2.2.1
  have e : ((cfg0.win 2).blk t).view.emb (ix2 k f) = (ix2 k f : S1024x3072.Idx) := by
    funext a
    apply Fin.ext
    match a with
    | ⟨0, _⟩ => show win0_2.index t (0 : Fin 2) * 1024 + 1 * k.val = k.val; rw [hi.1]; omega
    | ⟨1, _⟩ => show win0_2.index t (1 : Fin 2) * 3072 + 1 * f.val = f.val; rw [hi.2]; omega
  show V m c main_v1 (((cfg0.win 2).blk t).view.emb (ix2 k f)) = _
  rw [e, entry_w]

/-- The taps' block is the taps. -/
theorem iblk3 (c : Dev nD) (t : Fin cfg0.N) (k : Fin 3) (f : Fin 1024) :
    (iblk m c 3 t : Vec Ideal S3x1024 .f32) (ix2 k f) = CW m c k f := by
  have hi := (idx_facts t).2.2.2.1
  have e : ((cfg0.win 3).blk t).view.emb (ix2 k f) = (ix2 k f : S3x1024.Idx) := by
    funext a
    apply Fin.ext
    match a with
    | ⟨0, _⟩ => show win0_3.index t (0 : Fin 2) * 3 + 1 * k.val = k.val; rw [hi.1]; omega
    | ⟨1, _⟩ => show win0_3.index t (1 : Fin 2) * 1024 + 1 * f.val = f.val; rw [hi.2]; omega
  show V m c main_arg3 (((cfg0.win 3).blk t).view.emb (ix2 k f)) = _
  rw [e, V_main_arg3]

/-- The output weight's block is the weight. -/
theorem iblk4 (c : Dev nD) (t : Fin cfg0.N) (k : Fin 1024) (f : Fin 1024) :
    (iblk m c 4 t : Vec Ideal S1024x1024 .bf16) (ix2 k f) = WO m c k f := by
  have hi := (idx_facts t).2.2.2.2.1
  have e : ((cfg0.win 4).blk t).view.emb (ix2 k f) = (ix2 k f : S1024x1024.Idx) := by
    funext a
    apply Fin.ext
    match a with
    | ⟨0, _⟩ => show win0_4.index t (0 : Fin 2) * 1024 + 1 * k.val = k.val; rw [hi.1]; omega
    | ⟨1, _⟩ => show win0_4.index t (1 : Fin 2) * 1024 + 1 * f.val = f.val; rw [hi.2]; omega
  show V m c main_v2 (((cfg0.win 4).blk t).view.emb (ix2 k f)) = _
  rw [e, entry_wo]

/-- What a point leaves in the carried rows: its block's last product rows. -/
theorem carried (c : Dev nD) (t : Fin cfg0.N) :
    (outsAt0 m c t.val t.isLt).2 = tail (iblk m c 0 t) (iblk m c 1 t) (iblk m c 2 t) := by
  by_cases h0 : t.val % 16 = 0
  · rw [outsAt0_A m c t h0]; dsimp only; rw [sout_A]
  · rw [outsAt0_B m c t h0]; dsimp only; rw [sout_B]

/-- The product rows of the block at point `t`, one by one. -/
theorem zblk_at (c : Dev nD) (t : Fin cfg0.N) (r : Fin 512) (d : Fin 1024) :
    zblk (iblk m c 0 t) (iblk m c 1 t) (iblk m c 2 t) (ix2 r d)
      = zrow (nrm (X m c ⟨t.val / 16, by have := lt_N t; omega⟩ ⟨t.val % 16 * 512 + r.val, by omega⟩) (G m c)) (W m c) d := by
  rw [zblk_apply]
  simp only [iblk0, iblk1, iblk2]

/-- The rows the point before `t` hands on: the product rows of the eight positions before `t`'s block. -/
theorem tail_at (c : Dev nD) (t : Fin cfg0.N) (h0 : ¬ t.val % 16 = 0) (r : Fin 8) (d : Fin 1024) :
    (outsAt0 m c (t.val - 1) (Nat.lt_of_le_of_lt (Nat.sub_le _ _) t.isLt)).2 (ix2 r d)
      = zrow (nrm (X m c ⟨t.val / 16, by have := lt_N t; omega⟩ ⟨t.val % 16 * 512 + r.val - 8, by omega⟩) (G m c)) (W m c) d := by
  have ht := lt_N t
  have e := carried m c ⟨t.val - 1, Nat.lt_of_le_of_lt (Nat.sub_le _ _) t.isLt⟩
  rw [show (outsAt0 m c (t.val - 1) (Nat.lt_of_le_of_lt (Nat.sub_le _ _) t.isLt)).2 = _ from e, tail_apply]
  simp only [iblk0, iblk1, iblk2]
  have e1 : (⟨(t.val - 1) / 16, by omega⟩ : Fin 8) = ⟨t.val / 16, by omega⟩ := Fin.ext (by show (t.val - 1) / 16 = t.val / 16; omega)
  have e2 : (⟨(t.val - 1) % 16 * 512 + (504 + r.val), by omega⟩ : Fin 8192) = ⟨t.val % 16 * 512 + r.val - 8, by omega⟩ :=
    Fin.ext (by show (t.val - 1) % 16 * 512 + (504 + r.val) = t.val % 16 * 512 + r.val - 8; omega)
  rw [e1, e2]

/-- A product row `n` positions back, at a position of the sequence. -/
theorem past_of_le (X : Fin 8192 → Fin 1024 → EReal) (g : Fin 1024 → EReal) (w : Fin 1024 → Fin 3072 → EReal) (s s' : Fin 8192) (n : Nat) (d : Fin 1024)
    (h : s'.val + n = s.val) : zrow (nrm (X s') g) w d = past X g w s n d := by
  unfold past
  rw [if_pos (by omega), show (⟨s.val - n, by omega⟩ : Fin 8192) = s' from Fin.ext (by show s.val - n = s'.val; omega)]

/-- A product row before the sequence begins. -/
theorem past_of_gt (X : Fin 8192 → Fin 1024 → EReal) (g : Fin 1024 → EReal) (w : Fin 1024 → Fin 3072 → EReal) (s : Fin 8192) (n : Nat) (d : Fin 1024)
    (h : s.val < n) : (0 : EReal) = past X g w s n d := by
  unfold past
  rw [if_neg (by omega)]

/-- The block a sequence's first point stores. -/
theorem block_A (c : Dev nD) (t : Fin cfg0.N) (h0 : t.val % 16 = 0) (r : Fin 512) (d : Fin 1024) :
    oblk (iblk m c 0 t) (iblk m c 1 t) (iblk m c 2 t) (iblk m c 3 t) (iblk m c 4 t) k0_pay2 (ix3 0 r d)
      = conv (X m c ⟨t.val / 16, by have := lt_N t; omega⟩) (G m c) (W m c) (CW m c) (WO m c) ⟨t.val % 16 * 512 + r.val, by omega⟩ d := by
  rw [oblk_apply]
  simp only [iblk0, iblk1, iblk2, iblk3, iblk4, zblk_at, pay2_apply]
  unfold conv
  have e2 : ∀ j, (if h : r.val < 2 then (0 : EReal) else zrow (nrm (X m c ⟨t.val / 16, by have := lt_N t; omega⟩ ⟨t.val % 16 * 512 + (r.val - 2), by omega⟩) (G m c)) (W m c) j)
      = past (X m c ⟨t.val / 16, by have := lt_N t; omega⟩) (G m c) (W m c) ⟨t.val % 16 * 512 + r.val, by omega⟩ 2 j := by
    intro j
    by_cases h : r.val < 2
    · rw [dif_pos h]; exact past_of_gt _ _ _ _ _ _ (by dsimp only; omega)
    · rw [dif_neg h]; exact past_of_le _ _ _ _ _ _ _ (by dsimp only; omega)
  have e1 : ∀ j, (if h : r.val < 1 then (0 : EReal) else zrow (nrm (X m c ⟨t.val / 16, by have := lt_N t; omega⟩ ⟨t.val % 16 * 512 + (r.val - 1), by omega⟩) (G m c)) (W m c) j)
      = past (X m c ⟨t.val / 16, by have := lt_N t; omega⟩) (G m c) (W m c) ⟨t.val % 16 * 512 + r.val, by omega⟩ 1 j := by
    intro j
    by_cases h : r.val < 1
    · rw [dif_pos h]; exact past_of_gt _ _ _ _ _ _ (by dsimp only; omega)
    · rw [dif_neg h]; exact past_of_le _ _ _ _ _ _ _ (by dsimp only; omega)
  have e0 : ∀ j, zrow (nrm (X m c ⟨t.val / 16, by have := lt_N t; omega⟩ ⟨t.val % 16 * 512 + r.val, by omega⟩) (G m c)) (W m c) j
      = past (X m c ⟨t.val / 16, by have := lt_N t; omega⟩) (G m c) (W m c) ⟨t.val % 16 * 512 + r.val, by omega⟩ 0 j :=
    fun j => past_of_le _ _ _ _ _ _ _ rfl
  simp only [e2, e1, e0]

/-- The block a later point stores. -/
theorem block_B (c : Dev nD) (t : Fin cfg0.N) (h0 : ¬ t.val % 16 = 0) (r : Fin 512) (d : Fin 1024) :
    oblk (iblk m c 0 t) (iblk m c 1 t) (iblk m c 2 t) (iblk m c 3 t) (iblk m c 4 t)
        (outsAt0 m c (t.val - 1) (Nat.lt_of_le_of_lt (Nat.sub_le _ _) t.isLt)).2 (ix3 0 r d)
      = conv (X m c ⟨t.val / 16, by have := lt_N t; omega⟩) (G m c) (W m c) (CW m c) (WO m c) ⟨t.val % 16 * 512 + r.val, by omega⟩ d := by
  rw [oblk_apply]
  simp only [iblk0, iblk1, iblk2, iblk3, iblk4, zblk_at, tail_at m c t h0]
  unfold conv
  have e2 : ∀ j, (if h : r.val < 2 then zrow (nrm (X m c ⟨t.val / 16, by have := lt_N t; omega⟩ ⟨t.val % 16 * 512 + (6 + r.val) - 8, by omega⟩) (G m c)) (W m c) j
        else zrow (nrm (X m c ⟨t.val / 16, by have := lt_N t; omega⟩ ⟨t.val % 16 * 512 + (r.val - 2), by omega⟩) (G m c)) (W m c) j)
      = past (X m c ⟨t.val / 16, by have := lt_N t; omega⟩) (G m c) (W m c) ⟨t.val % 16 * 512 + r.val, by omega⟩ 2 j := by
    intro j
    by_cases h : r.val < 2
    · rw [dif_pos h]; exact past_of_le _ _ _ _ _ _ _ (by dsimp only; omega)
    · rw [dif_neg h]; exact past_of_le _ _ _ _ _ _ _ (by dsimp only; omega)
  have e1 : ∀ j, (if h : r.val < 1 then zrow (nrm (X m c ⟨t.val / 16, by have := lt_N t; omega⟩ ⟨t.val % 16 * 512 + (7 + r.val) - 8, by omega⟩) (G m c)) (W m c) j
        else zrow (nrm (X m c ⟨t.val / 16, by have := lt_N t; omega⟩ ⟨t.val % 16 * 512 + (r.val - 1), by omega⟩) (G m c)) (W m c) j)
      = past (X m c ⟨t.val / 16, by have := lt_N t; omega⟩) (G m c) (W m c) ⟨t.val % 16 * 512 + r.val, by omega⟩ 1 j := by
    intro j
    by_cases h : r.val < 1
    · rw [dif_pos h]; exact past_of_le _ _ _ _ _ _ _ (by dsimp only; omega)
    · rw [dif_neg h]; exact past_of_le _ _ _ _ _ _ _ (by dsimp only; omega)
  have e0 : ∀ j, zrow (nrm (X m c ⟨t.val / 16, by have := lt_N t; omega⟩ ⟨t.val % 16 * 512 + r.val, by omega⟩) (G m c)) (W m c) j
      = past (X m c ⟨t.val / 16, by have := lt_N t; omega⟩) (G m c) (W m c) ⟨t.val % 16 * 512 + r.val, by omega⟩ 0 j :=
    fun j => past_of_le _ _ _ _ _ _ _ rfl
  simp only [e2, e1, e0]

/-- What point `t` writes back is block `t` of the result. -/
theorem flushed_eq (c : Dev nD) (t : Fin cfg0.N) :
    (dats m 0 c).flushed 5 t = ((cfg0.win 5).blk t).view.read (Elt Ideal) (result m c) := by
  have hi := (idx_facts t).2.2.2.2.2
  have ht := lt_N t
  have e : ∀ (r : Fin 512) (d : Fin 1024), ((cfg0.win 5).blk t).view.emb (ix3 0 r d)
      = (ix3 (⟨t.val / 16, by omega⟩ : Fin 8) (⟨t.val % 16 * 512 + r.val, by omega⟩ : Fin 8192) d : S8x8192x1024.Idx) := by
    intro r d
    funext a
    apply Fin.ext
    match a with
    | ⟨0, _⟩ => show win0_5.index t (0 : Fin 3) * 1 + 1 * 0 = t.val / 16; rw [hi.1]; omega
    | ⟨1, _⟩ => show win0_5.index t (1 : Fin 3) * 512 + 1 * r.val = t.val % 16 * 512 + r.val; rw [hi.2.1]; omega
    | ⟨2, _⟩ => show win0_5.index t (2 : Fin 3) * 1024 + 1 * d.val = d.val; rw [hi.2.2]; omega
  by_cases h0 : t.val % 16 = 0
  · rw [Value.flushed5_A m c t h0, out_A]
    refine funext fun (j : S1x512x1024.Idx) => ?_
    obtain ⟨r, d, rfl⟩ : ∃ (r : Fin 512) (d : Fin 1024), j = ix3 0 r d := ⟨j 1, j 2, by
      have h := eq_ix3 j; rwa [show j 0 = (0 : Fin 1) from Subsingleton.elim (α := Fin 1) _ _] at h⟩
    show oblk (iblk m c 0 t) (iblk m c 1 t) (iblk m c 2 t) (iblk m c 3 t) (iblk m c 4 t) k0_pay2 (ix3 0 r d)
      = result m c (((cfg0.win 5).blk t).view.emb (ix3 0 r d))
    rw [e, block_A m c t h0]
    rfl
  · rw [Value.flushed5_B m c t h0, out_B]
    refine funext fun (j : S1x512x1024.Idx) => ?_
    obtain ⟨r, d, rfl⟩ : ∃ (r : Fin 512) (d : Fin 1024), j = ix3 0 r d := ⟨j 1, j 2, by
      have h := eq_ix3 j; rwa [show j 0 = (0 : Fin 1) from Subsingleton.elim (α := Fin 1) _ _] at h⟩
    show oblk (iblk m c 0 t) (iblk m c 1 t) (iblk m c 2 t) (iblk m c 3 t) (iblk m c 4 t) _ (ix3 0 r d)
      = result m c (((cfg0.win 5).blk t).view.emb (ix3 0 r d))
    rw [e, block_B m c t h0]
    rfl

/-- The blocks tile the result array. -/
theorem cover (i : S8x8192x1024.Idx) :
    ∃ t : Fin cfg0.N, (cfg0.win 5).flush t = true ∧ i ∈ ((cfg0.win 5).blk t).view.set :=
  (Value.covered_iff5 i).2 ⟨Nat.zero_le _, (i 0).isLt, Nat.zero_le _, (i 1).isLt, Nat.zero_le _, (i 2).isLt⟩

/-- The result array after the run. -/
theorem final (c : Dev nD) : (dats m 0 c).arrAt 5 cfg0.N = result m c :=
  (dats m 0 c).arrAt_eq_of_cover 5 (result m c) (fun t _ => flushed_eq m c t) cover

/-- The kernel's run: the result array holds the mixer of the arguments, which are unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.ConvIdeal.ConvValue

end
-- ==== Proof.ConvClaim.lean ====
/-
  The short-convolution kernel computes the reference's short-convolution mixer.
-/
module

public import proofs.«01_k».proof.Defs
public import proofs.«01_k».proof.Proof.Gen.ConvRefIdeal.Run
public import proofs.«01_k».proof.Proof.ConvArray
public import Idealize.ShloMosaic.Lib.Quiescent

@[expose] public section

set_option maxRecDepth 16384

noncomputable section

namespace Cert.ConvRefIdeal.ConvValue

open Cert.ConvRefIdeal Cert.ConvRefIdeal.Gen Idealize.ShloMosaic Idealize.ShloMosaic.TcCoe Idealize.SL.Sem Cert.Rows

/-- The reference's normalized input. -/
def nrmV (x : FVec Ideal S8x8192x1024 .f32) (g : FVec Ideal S1024 .f32) : FVec Ideal S8x8192x1024 .f32 :=
  mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))

/-- It at an index: the row's normalization. -/
theorem nrmV_apply (x : FVec Ideal S8x8192x1024 .f32) (g : FVec Ideal S1024 .f32) (b : Fin 8) (s : Fin 8192) (k : Fin 1024) :
    nrmV x g (ix3 b s k) = nrm (fun k => x (ix3 b s k)) (fun k => g (ix1 k)) k := by
  pointwise [nrmV, nrm]

/-- The reference's three projections, side by side. -/
def upV (h : FVec Ideal S8x8192x1024 .f32) (w : FVec Ideal S1024x3072 .f32) : FVec Ideal S8x8192x3072 .f32 :=
  Host.dotGeneral dot_S8x8192x1024_S1024x3072_S8x8192x3072_2_0_01_1_n_n none h w

/-- They at an index. -/
theorem upV_apply (h : FVec Ideal S8x8192x1024 .f32) (w : FVec Ideal S1024x3072 .f32) (b : Fin 8) (s : Fin 8192) (f : Fin 3072) :
    upV h w (ix3 b s f) = ∑ k : Fin 1024, h (ix3 b s k) * w (ix2 k f) := by
  pointwise [upV]

/-- The products of the second and third projections, two zero rows before them. -/
def padV (u : FVec Ideal S8x8192x3072 .f32) : FVec Ideal S8x8194x1024 .f32 :=
  pad S8x8194x1024 ![0, 2, 0] ![0, 0, 0] ![0, 0, 0] (mulf (extractStridedSlice S8x8192x1024 ![0, 0, 1024] u slices_S8x8192x3072_S8x8192x1024_0_0_1024) (extractStridedSlice S8x8192x1024 ![0, 0, 2048] u slices_S8x8192x3072_S8x8192x1024_0_0_2048)) (sitofp .f32 (constantI S_ 32 0#32)) pads_S8x8192x1024_S8x8194x1024_000_200_000 h_S_

/-- They at an index. -/
theorem padV_apply (u : FVec Ideal S8x8192x3072 .f32) (b : Fin 8) (s : Fin 8194) (d : Fin 1024) :
    padV u (ix3 b s d) = if h : 2 ≤ s.val then u (ix3 b ⟨s.val - 2, by omega⟩ ⟨1024 + d.val, by omega⟩) * u (ix3 b ⟨s.val - 2, by omega⟩ ⟨2048 + d.val, by omega⟩) else 0 := by
  pointwise [padV]
  have z : (FloatOps.sitofp (F := Ideal) FTy.f32 0#32 : EReal) = 0 := by
    show (((0#32 : BitVec 32).toInt : ℝ) : EReal) = 0
    simp
  by_cases h : 2 ≤ s.val
  · rw [dif_pos ⟨h, by omega⟩, dif_pos h]
  · rw [dif_neg (fun q => h q.1), dif_neg h]
    exact z

/-- The reference's gated convolution, from the projections and the padded products. -/
def gateV (u : FVec Ideal S8x8192x3072 .f32) (p : FVec Ideal S8x8194x1024 .f32) (cw : FVec Ideal S3x1024 .f32) : FVec Ideal S8x8192x1024 .f32 :=
  mulf (extractStridedSlice S8x8192x1024 ![0, 0, 0] u slices_S8x8192x3072_S8x8192x1024_0_0_0)
    (addf (addf (mulf (broadcastInDim S8x8192x1024 ![0, 1, 2] bcast_S1x1x1024_S8x8192x1024_0_1_2 (broadcastInDim S1x1x1024 ![2] bcast_S1024_S1x1x1024_2 (shapeCast _ (extractStridedSlice S1x1024 ![0, 0] cw slices_S3x1024_S1x1024_0_0) shapeCasts_S1x1024_S1024))) (extractStridedSlice S8x8192x1024 ![0, 0, 0] p slices_S8x8194x1024_S8x8192x1024_0_0_0))
      (mulf (broadcastInDim S8x8192x1024 ![0, 1, 2] bcast_S1x1x1024_S8x8192x1024_0_1_2 (broadcastInDim S1x1x1024 ![2] bcast_S1024_S1x1x1024_2 (shapeCast _ (extractStridedSlice S1x1024 ![1, 0] cw slices_S3x1024_S1x1024_1_0) shapeCasts_S1x1024_S1024))) (extractStridedSlice S8x8192x1024 ![0, 1, 0] p slices_S8x8194x1024_S8x8192x1024_0_1_0)))
      (mulf (broadcastInDim S8x8192x1024 ![0, 1, 2] bcast_S1x1x1024_S8x8192x1024_0_1_2 (broadcastInDim S1x1x1024 ![2] bcast_S1024_S1x1x1024_2 (shapeCast _ (extractStridedSlice S1x1024 ![2, 0] cw slices_S3x1024_S1x1024_2_0) shapeCasts_S1x1024_S1024))) (extractStridedSlice S8x8192x1024 ![0, 2, 0] p slices_S8x8194x1024_S8x8192x1024_0_2_0)))

/-- It at an index. -/
theorem gateV_apply (u : FVec Ideal S8x8192x3072 .f32) (p : FVec Ideal S8x8194x1024 .f32) (cw : FVec Ideal S3x1024 .f32) (b : Fin 8) (s : Fin 8192) (d : Fin 1024) :
    gateV u p cw (ix3 b s d) = u (ix3 b s ⟨d.val, by omega⟩)
      * (cw (ix2 0 d) * p (ix3 b ⟨s.val, by omega⟩ d) + cw (ix2 1 d) * p (ix3 b ⟨1 + s.val, by omega⟩ d) + cw (ix2 2 d) * p (ix3 b ⟨2 + s.val, by omega⟩ d)) := by
  pointwise [gateV]

/-- The reference's result, from the gated convolution. -/
def outV (x : FVec Ideal S8x8192x1024 .f32) (a : FVec Ideal S8x8192x1024 .f32) (wo : FVec Ideal S1024x1024 .f32) : FVec Ideal S8x8192x1024 .f32 :=
  addf x (Host.dotGeneral dot_S8x8192x1024_S1024x1024_S8x8192x1024_2_0_01_1_n_n none a wo)

/-- It at an index. -/
theorem outV_apply (x : FVec Ideal S8x8192x1024 .f32) (a : FVec Ideal S8x8192x1024 .f32) (wo : FVec Ideal S1024x1024 .f32) (b : Fin 8) (s : Fin 8192) (d : Fin 1024) :
    outV x a wo (ix3 b s d) = x (ix3 b s d) + ∑ j : Fin 1024, a (ix3 b s j) * wo (ix2 j d) := by
  pointwise [outV]

/-- A padded product row, `n` positions before `s`. -/
theorem pad_past (x : FVec Ideal S8x8192x1024 .f32) (g : FVec Ideal S1024 .f32) (w : FVec Ideal S1024x3072 .f32) (b : Fin 8) (s : Fin 8192) (n e : Nat)
    (hs : e < 8194) (h : e + n = s.val + 2) (d : Fin 1024) :
    padV (upV (nrmV x g) w) (ix3 b ⟨e, hs⟩ d) = past (fun s k => x (ix3 b s k)) (fun k => g (ix1 k)) (fun k f => w (ix2 k f)) s n d := by
  rw [padV_apply]
  unfold past
  by_cases h2 : 2 ≤ e
  · have es : (⟨e - 2, by omega⟩ : Fin 8192) = ⟨s.val - n, by omega⟩ := Fin.ext (by show e - 2 = s.val - n; omega)
    rw [dif_pos h2, if_pos (by omega)]
    simp only [upV_apply, nrmV_apply, zrow, es]
  · rw [dif_neg h2, if_neg (by omega)]

/-- The reference at an index. -/
theorem ref_apply (x : FVec Ideal S8x8192x1024 .f32) (g : FVec Ideal S1024 .f32) (w : FVec Ideal S1024x3072 .f32) (cw : FVec Ideal S3x1024 .f32)
    (wo : FVec Ideal S1024x1024 .f32) (b : Fin 8) (s : Fin 8192) (d : Fin 1024) :
    outV x (gateV (upV (nrmV x g) w) (padV (upV (nrmV x g) w)) cw) wo (ix3 b s d)
      = conv (fun s k => x (ix3 b s k)) (fun k => g (ix1 k)) (fun k f => w (ix2 k f)) (fun a j => cw (ix2 a j)) (fun j d => wo (ix2 j d)) s d := by
  rw [outV_apply]
  unfold conv mix
  simp only [gateV_apply]
  simp only [pad_past x g w b s 2 s.val (by omega) (by omega), pad_past x g w b s 1 (1 + s.val) (by omega) (by omega),
    pad_past x g w b s 0 (2 + s.val) (by omega) (by omega), upV_apply, nrmV_apply]

/-- The reference's result is the composition of these steps. -/
theorem ref_term (m : (ℓ : Loc nD τ sig) → Buf (Elt Ideal) ℓ) (c : Dev nD) :
    Cert.ConvRefIdeal.Value.res_main_v41 m c = outV (m ((c.tc : Thread nD τ).loc main_arg0))
      (gateV (upV (nrmV (m ((c.tc : Thread nD τ).loc main_arg0)) (m ((c.tc : Thread nD τ).loc main_arg1))) (m ((c.tc : Thread nD τ).loc main_arg2)))
        (padV (upV (nrmV (m ((c.tc : Thread nD τ).loc main_arg0)) (m ((c.tc : Thread nD τ).loc main_arg1))) (m ((c.tc : Thread nD τ).loc main_arg2))))
        (m ((c.tc : Thread nD τ).loc main_arg3))) (m ((c.tc : Thread nD τ).loc main_arg4)) := rfl

end Cert.ConvRefIdeal.ConvValue

namespace Cert.ConvClaim

open Idealize.ShloMosaic Idealize.ShloMosaic.TcCoe Idealize.SL.Sem Cert.Rows

/-- The reference runs, leaves its arguments and every semaphore as it found them. -/
theorem frame_ref [Cert.ConvRefIdeal.Facts] : Cert.quiescent_ConvRefIdeal := fun m ρ _ =>
  (θ_run Cert.ConvRefIdeal.defs _ _).mono (fun r h => ⟨fun c => (h c).2, Idealize.ShloMosaic.sem_eq_zero_of_no_sems (by decide) r.2⟩)
    (Cert.ConvRefIdeal.Value.run (F := Ideal) m ρ)

/-- The two idealized programs end with the same result array. -/
theorem algebraic [Cert.ConvIdeal.Facts] [Cert.ConvRefIdeal.Facts] : Cert.algebraic_ConvIdeal_ConvRefIdeal := by
  pair_intro
  · run_from Cert.ConvIdeal.ConvValue.run m g
  · run_from Cert.ConvRefIdeal.Value.run m' g'
    refine funext fun (j : Cert.ConvIdeal.S8x8192x1024.Idx) => ?_
    obtain ⟨b, s, d, rfl⟩ : ∃ (b : Fin 8) (s : Fin 8192) (d : Fin 1024), j = ix3 b s d := ⟨j 0, j 1, j 2, eq_ix3 j⟩
    have e := hagree c
    rw [Cert.ConvRefIdeal.ConvValue.ref_term, e.1, e.2.1, e.2.2.1, e.2.2.2.1, e.2.2.2.2]
    exact Cert.ConvRefIdeal.ConvValue.ref_apply _ _ _ _ _ b s d

end Cert.ConvClaim

end
-- ==== Proof.PoolRows.lean ====
/-
  The pooling mixer over the extended reals: running sums, their differences, and the windowed sum they come to
  where every term is finite.
-/
module

public import proofs.«01_k».proof.Proof.Rows

@[expose] public section

noncomputable section

namespace Cert.Rows

open Idealize.ShloMosaic

/-- A number that is neither infinity. -/
def Real' (x : EReal) : Prop := ∃ r : ℝ, x = (r : EReal)

theorem real_mul {x y : EReal} (hx : Real' x) (hy : Real' y) : Real' (x * y) := by
  obtain ⟨a, rfl⟩ := hx
  obtain ⟨b, rfl⟩ := hy
  exact ⟨a * b, (EReal.coe_mul a b).symm⟩

theorem real_add {x y : EReal} (hx : Real' x) (hy : Real' y) : Real' (x + y) := by
  obtain ⟨a, rfl⟩ := hx
  obtain ⟨b, rfl⟩ := hy
  exact ⟨a + b, (EReal.coe_add a b).symm⟩

theorem real_zero : Real' 0 := ⟨0, rfl⟩

theorem real_sum {ι : Type} (s : Finset ι) (f : ι → EReal) (h : ∀ i ∈ s, Real' (f i)) : Real' (∑ i ∈ s, f i) := by
  classical
  induction s using Finset.induction_on with
  | empty => exact real_zero
  | insert a s ha ih =>
    rw [Finset.sum_insert ha]
    exact real_add (h a (Finset.mem_insert_self a s)) (ih fun i hi => h i (Finset.mem_insert_of_mem hi))

/-- A finite number whose magnitude is below infinity. -/
theorem real_of_abs_lt {x : EReal} (h : max x (-x) < ⊤) : Real' x := by
  induction x with
  | bot => simp at h
  | top => simp at h
  | coe r => exact ⟨r, rfl⟩

theorem add_sub_of_real {a b : EReal} (ha : Real' a) : a + b - a = b := by
  obtain ⟨r, rfl⟩ := ha
  induction b with
  | bot => simp
  | top => simp
  | coe s => rw [← EReal.coe_add, ← EReal.coe_sub]; congr 1; ring

/-- A square is not negative. -/
theorem sq_nonneg' {x : EReal} (hx : Real' x) : 0 ≤ x * x := by
  obtain ⟨a, rfl⟩ := hx
  rw [← EReal.coe_mul]
  exact_mod_cast mul_self_nonneg a

/-- The normalization of a finite row is finite. -/
theorem real_nrm (x g : Fin 1024 → EReal) (hx : ∀ k, Real' (x k)) (hg : ∀ k, Real' (g k)) (k : Fin 1024) : Real' (nrm x g k) := by
  unfold nrm
  refine real_mul (real_mul (hx k) ?_) (hg k)
  obtain ⟨s, hs⟩ := real_sum Finset.univ (fun j => x j * x j) (fun j _ => real_mul (hx j) (hx j))
  have h0 : (0 : EReal) ≤ ∑ j : Fin 1024, x j * x j := Finset.sum_nonneg fun j _ => sq_nonneg' (hx j)
  rw [hs] at h0 ⊢
  have hs0 : 0 ≤ s := by exact_mod_cast h0
  have e1 : Ideal.ofBits .f32 0x44800000#32 = ((1024 : ℝ) : EReal) := by
    simp [Ideal.ofBits, Ideal.ieee]; rw [← EReal.coe_mul]; norm_num
  have e2 : ∃ e : ℝ, 0 < e ∧ Ideal.ofBits .f32 0x358637BD#32 = (e : EReal) :=
    ⟨8796093 * (2 : ℝ) ^ (-43 : ℤ), by positivity, by simp [Ideal.ofBits, Ideal.ieee]⟩
  obtain ⟨e, he, e2⟩ := e2
  rw [e1, e2, Ideal.div_coe (by norm_num : (1024 : ℝ) ≠ 0), ← EReal.coe_mul, ← EReal.coe_add]
  have hp : 0 < s * (1 / 1024 : ℝ) + e := by positivity
  refine ⟨(Real.sqrt (s * (1 / 1024 : ℝ) + e))⁻¹, ?_⟩
  show (if s * (1 / 1024 : ℝ) + e < 0 then (⊥ : EReal) else if s * (1 / 1024 : ℝ) + e = 0 then ⊤ else (((Real.sqrt (s * (1 / 1024 : ℝ) + e))⁻¹ : ℝ) : EReal)) = _
  rw [if_neg (by linarith), if_neg (by linarith)]

/-- The sum of the `W` last terms of a sequence up to position `s`, terms before the sequence being zero. -/
def wsum (f : Nat → EReal) (W s : Nat) : EReal := ∑ n ∈ Finset.range W, if n ≤ s then f (s - n) else 0

/-- A difference of running sums of finite terms is the windowed sum. -/
theorem running_sub (f : Nat → EReal) (hf : ∀ q, Real' (f q)) (W s : Nat) :
    (∑ q ∈ Finset.range (s + 1), f q) - (if W ≤ s then ∑ q ∈ Finset.range (s - W + 1), f q else 0) = wsum f W s := by
  unfold wsum
  by_cases h : W ≤ s
  · rw [if_pos h]
    have e : ∑ q ∈ Finset.range (s + 1), f q = ∑ q ∈ Finset.range (s - W + 1), f q + ∑ n ∈ Finset.range W, if n ≤ s then f (s - n) else 0 := by
      rw [show s + 1 = (s - W + 1) + W by omega, Finset.sum_range_add]
      congr 1
      rw [← Finset.sum_range_reflect]
      refine Finset.sum_congr rfl fun n hn => ?_
      have := Finset.mem_range.1 hn
      rw [if_pos (by omega)]
      congr 1
      omega
    rw [e]
    exact add_sub_of_real (real_sum _ _ fun q _ => hf q)
  · obtain ⟨k, rfl⟩ : ∃ k, W = (s + 1) + k := ⟨W - (s + 1), by omega⟩
    rw [if_neg h, sub_zero, Finset.sum_range_add (fun n => if n ≤ s then f (s - n) else 0)]
    rw [Finset.sum_eq_zero (s := Finset.range k) (fun n _ => if_neg (by omega)), add_zero, ← Finset.sum_range_reflect]
    refine Finset.sum_congr rfl fun n hn => ?_
    have := Finset.mem_range.1 hn
    rw [if_pos (by omega)]
    congr 1

/-- Doubling a window: the sum over `2w` terms from the sums over `w` terms. -/
theorem wsum_double (f : Nat → EReal) (w s : Nat) (h : w ≤ s) : wsum f w s + wsum f w (s - w) = wsum f (w + w) s := by
  unfold wsum
  rw [Finset.sum_range_add]
  congr 1
  refine Finset.sum_congr rfl fun n _ => ?_
  by_cases hn : n ≤ s - w
  · rw [if_pos hn, if_pos (by omega)]
    congr 1
    omega
  · rw [if_neg hn, if_neg (by omega)]

/-- The number of terms a window of `W` holds at position `s`. -/
def cnt (W s : Nat) : EReal := ((min (s + 1) W : ℕ) : ℝ)

/-- Channel `c` of group `k`. -/
def ch (k : Fin 4) (c : Fin 256) : Fin 1024 := ⟨k.val * 256 + c.val, by omega⟩

/-- A channel's group. -/
def grpIx (d : Fin 1024) : Fin 4 := ⟨d.val / 256, by omega⟩

/-- A channel's place in its group. -/
def inIx (d : Fin 1024) : Fin 256 := ⟨d.val % 256, by omega⟩

theorem ch_eq (d : Fin 1024) : ch (grpIx d) (inIx d) = d := Fin.ext (by show d.val / 256 * 256 + d.val % 256 = d.val; omega)

/-- A group's projection of its window means less the rows themselves: `f` are the channels' sequences, `q` the place the window of `W` ends at,
    `s` the position that counts its terms. -/
def grp (f : Fin 256 → Nat → EReal) (W q s : Nat) (h : Fin 256 → EReal) (w : Fin 256 → Fin 256 → EReal) (j : Fin 256) : EReal :=
  ∑ c : Fin 256, (Ideal.div (wsum (f c) W q) (cnt W s) - h c) * w c j

/-- The normalized sequence `X` at a channel. -/
def nseq (X : Fin 8192 → Fin 1024 → EReal) (g : Fin 1024 → EReal) (d : Fin 1024) (q : Nat) : EReal :=
  if h : q < 8192 then nrm (X ⟨q, h⟩) g d else 0

/-- The pooling mixer at position `s` of the sequence `X`: each group of 256 channels has its window mean less its own row, projected within the group,
    shifted by the bias, scaled, and added to the input. -/
def poolRow (X : Fin 8192 → Fin 1024 → EReal) (g : Fin 1024 → EReal) (w : Fin 4 → Fin 256 → Fin 256 → EReal) (b sc : Fin 1024 → EReal)
    (s : Fin 8192) (k : Fin 4) (j : Fin 256) : EReal :=
  X s (ch k j) + (grp (fun c => nseq X g (ch k c)) (2 ^ (k.val + 1)) s.val s.val (fun c => nrm (X s) g (ch k c)) (w k) j + b (ch k j)) * sc (ch k j)

end Cert.Rows

end
-- ==== Proof.PoolScan.lean ====
/-
  The reference's running sum along the sequence, index by index.
-/
module

public import proofs.«01_k».proof.Proof.Gen.PoolRefIdeal.Run
public import proofs.«01_k».proof.Proof.PoolRows
public import Idealize.ShloMosaic.Lib.ValueIdx

@[expose] public section

set_option maxRecDepth 16384

noncomputable section

namespace Cert.PoolRefIdeal.PoolValue

open Cert.PoolRefIdeal Cert.PoolRefIdeal.Gen Idealize.ShloMosaic Idealize.ShloMosaic.TcCoe Idealize.SL.Sem Cert.Rows

/-- A left fold that adds is the sum. -/
theorem foldl_sum {N : Nat} (f : Fin N → EReal) : ∀ (l : List (Fin N)) (v : EReal), l.foldl (fun r n => r + f n) v = v + (l.map f).sum
  | [], v => by simp
  | n :: l, v => by
    rw [List.foldl_cons, foldl_sum f l, List.map_cons, List.sum_cons, add_assoc]

/-- The window of a running sum over 8192 positions. -/
abbrev Win : Shape := ⟨4, ![1, 8192, 1, 1]⟩

/-- A sum over the window's indices is one over its positions. -/
theorem sum_win (F : Win.Idx → EReal) : ∑ i : Win.Idx, F i = ∑ q : Fin 8192, F (ix4 0 q 0 0) := by
  refine Fintype.sum_equiv ⟨fun i => i 1, fun q => ix4 0 q 0 0, fun i => ?_, fun q => rfl⟩ _ _ (fun i => ?_)
  · refine funext fun a => ?_
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
  · refine congrArg F (funext fun a => ?_)
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

/-- The last positions of a window that ends at `s`. -/
theorem sum_back (f : Nat → EReal) (s : Fin 8192) :
    (∑ q : Fin 8192, if 8191 ≤ s.val + q.val then f (s.val + q.val - 8191) else 0) = ∑ q ∈ Finset.range (s.val + 1), f q := by
  rw [← Finset.sum_range (fun q => if 8191 ≤ s.val + q then f (s.val + q - 8191) else 0)]
  have e : Finset.range 8192 = Finset.range ((8191 - s.val) + (s.val + 1)) := congrArg Finset.range (by omega)
  rw [e, Finset.sum_range_add (fun q => if 8191 ≤ s.val + q then f (s.val + q - 8191) else 0)]
  rw [Finset.sum_eq_zero (fun q hq => if_neg (by have := Finset.mem_range.mp hq; omega)), zero_add]
  refine Finset.sum_congr rfl fun q _ => ?_
  rw [if_pos (by omega)]
  exact congrArg f (by omega)

/-- The reference's running sum. -/
def csV (h : FVec Ideal S8x8192x4x256 .f32) : FVec Ideal S8x8192x4x256 .f32 :=
  Host.reduceWindowAdd ![1, 8192, 1, 1] ![1, 1, 1, 1] ![0, 8191, 0, 0] ![0, 0, 0, 0] h (broadcastInDim S_ ![] bcast_S_S_ (constant S_ .f32 0x00000000#32)) reduceWindows_S8x8192x4x256_S8x8192x4x256_w1s1p0_0_w8192s1p8191_0_w1s1p0_0_w1s1p0_0 h_S_

/-- It at an index: the sum of the positions up to it. -/
theorem csV_apply (h : FVec Ideal S8x8192x4x256 .f32) (b : Fin 8) (s : Fin 8192) (k : Fin 4) (c : Fin 256) :
    csV h (ix4 b s k c) = ∑ q ∈ Finset.range (s.val + 1), if hq : q < 8192 then h (ix4 b ⟨q, hq⟩ k c) else 0 := by
  have z : (broadcastInDim S_ ![] bcast_S_S_ (constant (F := Ideal) S_ .f32 0x00000000#32)) (Shape.Idx.first h_S_) = (0 : EReal) := by
    show Ideal.ofBits .f32 0x00000000#32 = 0
    simp [Ideal.ofBits, Ideal.ieee]
  rw [← sum_back (fun q => if hq : q < 8192 then h (ix4 b ⟨q, hq⟩ k c) else 0) s]
  unfold csV Host.reduceWindowAdd
  rw [z]
  show Ideal.hostReduceWindowAdd _ _ _ _ _ _ _ _ = _
  unfold Ideal.hostReduceWindowAdd Host.reduceWindow
  dsimp only
  rw [foldl_sum, zero_add, ← List.ofFn_eq_map, List.sum_ofFn]
  refine (Equiv.sum_comp (Shape.rowMajor Win).symm (fun i : Win.Idx => (@dite EReal (∀ a : Fin 4, (![0, 8191, 0, 0] : Fin 4 → Nat) a ≤ (ix4 b s k c a).val * (![1, 1, 1, 1] : Fin 4 → Nat) a + (i a).val ∧ (ix4 b s k c a).val * (![1, 1, 1, 1] : Fin 4 → Nat) a + (i a).val - (![0, 8191, 0, 0] : Fin 4 → Nat) a < S8x8192x4x256.size a)
      (Nat.decidableForallFin _) (fun hin => h (fun a => ⟨_, (hin a).2⟩)) (fun _ => 0)))).trans ?_
  rw [sum_win]
  refine Finset.sum_congr rfl fun q _ => ?_
  by_cases hs : 8191 ≤ s.val + q.val
  · rw [if_pos hs, dif_pos, dif_pos (show s.val + q.val - 8191 < 8192 by omega)]
    · refine congrArg h (funext fun a => Fin.ext ?_)
      match a with
      | ⟨0, _⟩ => show b.val * 1 + 0 - 0 = b.val; omega
      | ⟨1, _⟩ => show s.val * 1 + q.val - 8191 = s.val + q.val - 8191; omega
      | ⟨2, _⟩ => show k.val * 1 + 0 - 0 = k.val; omega
      | ⟨3, _⟩ => show c.val * 1 + 0 - 0 = c.val; omega
    · intro a
      match a with
      | ⟨0, _⟩ => show 0 ≤ b.val * 1 + 0 ∧ b.val * 1 + 0 - 0 < 8; omega
      | ⟨1, _⟩ => show 8191 ≤ s.val * 1 + q.val ∧ s.val * 1 + q.val - 8191 < 8192; omega
      | ⟨2, _⟩ => show 0 ≤ k.val * 1 + 0 ∧ k.val * 1 + 0 - 0 < 4; omega
      | ⟨3, _⟩ => show 0 ≤ c.val * 1 + 0 ∧ c.val * 1 + 0 - 0 < 256; omega
  · rw [if_neg hs, dif_neg]
    intro hin
    have h1 := (hin ⟨1, by decide⟩).1
    change 8191 ≤ s.val * 1 + q.val at h1
    omega

end Cert.PoolRefIdeal.PoolValue

end
-- ==== Proof.PoolBlock.lean ====
/-
  The pooling kernel's body on one block of 512 rows: what it stores, read row by row.
-/
module

public import proofs.«01_k».proof.Proof.Gen.PoolIdeal.Frame
public import proofs.«01_k».proof.Proof.PoolRows
public import Idealize.ShloMosaic.Lib.Pointwise

@[expose] public section

set_option maxRecDepth 16384

noncomputable section

namespace Cert.PoolIdeal.PoolValue

open Cert.PoolIdeal Cert.PoolIdeal.Gen Idealize.ShloMosaic Idealize.ShloMosaic.TcCoe Idealize.SL.Sem Cert.Rows

/-- Sixteen rows followed by a block's rows. -/
def catB (a : FVec Ideal S16x256 .f32) (h : FVec Ideal S512x256 .f32) : FVec Ideal S528x256 .f32 :=
  concatenate S528x256 0 [⟨S16x256, a⟩, ⟨S512x256, h⟩] concatenates_S16x256_S512x256_S528x256_d0

/-- The rows of such a stack, as a sequence of numbers for each channel. -/
def seqB (a : FVec Ideal S16x256 .f32) (h : FVec Ideal S512x256 .f32) (c : Fin 256) (q : Nat) : EReal :=
  if h0 : q < 16 then a (ix2 ⟨q, h0⟩ c) else if h1 : q < 528 then h (ix2 ⟨q - 16, by omega⟩ c) else 0

theorem catB_apply (a : FVec Ideal S16x256 .f32) (h : FVec Ideal S512x256 .f32) (q : Fin 528) (c : Fin 256) :
    catB a h (ix2 q c) = seqB a h c q.val := by
  pointwise [catB]
  unfold seqB
  by_cases h0 : q.val < 16
  · rw [dif_pos h0, dif_pos h0]
  · rw [dif_neg h0, dif_neg h0, dif_pos q.isLt]

/-- The four doublings of a window. -/
def dbl1 (T : FVec Ideal S528x256 .f32) : FVec Ideal S528x256 .f32 := addf T (dynamicRotate 0 1#32 none T rotates_S528x256_d0)
def dbl2 (T : FVec Ideal S528x256 .f32) : FVec Ideal S528x256 .f32 := addf T (dynamicRotate 0 2#32 none T rotates_S528x256_d0)
def dbl4 (T : FVec Ideal S528x256 .f32) : FVec Ideal S528x256 .f32 := addf T (dynamicRotate 0 4#32 none T rotates_S528x256_d0)
def dbl8 (T : FVec Ideal S528x256 .f32) : FVec Ideal S528x256 .f32 := addf T (dynamicRotate 0 8#32 none T rotates_S528x256_d0)

/-- `T` holds the windowed sums of `f`, from the first row that has the whole window. -/
def Holds (f : Fin 256 → Nat → EReal) (w : Nat) (T : FVec Ideal S528x256 .f32) : Prop :=
  ∀ (q : Fin 528) (c : Fin 256), w ≤ q.val + 1 → T (ix2 q c) = wsum (f c) w q.val

theorem holds_step (f : Fin 256 → Nat → EReal) (w : Nat) (hw : 1 ≤ w) (T U : FVec Ideal S528x256 .f32) (hT : Holds f w T)
    (hU : ∀ (q : Fin 528) (c : Fin 256) (_ : w ≤ q.val), U (ix2 q c) = T (ix2 q c) + T (ix2 ⟨q.val - w, by omega⟩ c)) : Holds f (w + w) U := by
  intro q c h
  rw [hU q c (by omega), hT q c (by omega), hT _ c (by show w ≤ q.val - w + 1; omega)]
  exact wsum_double _ _ _ (by omega)

theorem rot_idx (T : FVec Ideal S528x256 .f32) (q : Fin 528) (c : Fin 256) (w : Nat) (h : w ≤ q.val) (hw : w ≤ 528) (h' : (q.val + 528 - w) % 528 < 528) :
    T (ix2 ⟨(q.val + 528 - w) % 528, h'⟩ c) = T (ix2 ⟨q.val - w, by omega⟩ c) := by
  have e : (⟨(q.val + 528 - w) % 528, h'⟩ : Fin 528) = ⟨q.val - w, by omega⟩ := Fin.ext (by show (q.val + 528 - w) % 528 = q.val - w; omega)
  rw [e]

theorem holds_cat (a : FVec Ideal S16x256 .f32) (h : FVec Ideal S512x256 .f32) : Holds (seqB a h) 1 (catB a h) := by
  intro q c _
  rw [catB_apply]
  simp [wsum]

theorem holds1 (f : Fin 256 → Nat → EReal) (T : FVec Ideal S528x256 .f32) (hT : Holds f 1 T) : Holds f 2 (dbl1 T) :=
  holds_step f 1 (by omega) T _ hT fun q c h => by
    pointwise [dbl1]
    rw [rot_idx T q c 1 h (by omega)]

theorem holds2 (f : Fin 256 → Nat → EReal) (T : FVec Ideal S528x256 .f32) (hT : Holds f 2 T) : Holds f 4 (dbl2 T) :=
  holds_step f 2 (by omega) T _ hT fun q c h => by
    pointwise [dbl2]
    rw [rot_idx T q c 2 h (by omega)]

theorem holds4 (f : Fin 256 → Nat → EReal) (T : FVec Ideal S528x256 .f32) (hT : Holds f 4 T) : Holds f 8 (dbl4 T) :=
  holds_step f 4 (by omega) T _ hT fun q c h => by
    pointwise [dbl4]
    rw [rot_idx T q c 4 h (by omega)]

theorem holds8 (f : Fin 256 → Nat → EReal) (T : FVec Ideal S528x256 .f32) (hT : Holds f 8 T) : Holds f 16 (dbl8 T) :=
  holds_step f 8 (by omega) T _ hT fun q c h => by
    pointwise [dbl8]
    rw [rot_idx T q c 8 h (by omega)]

/-- The window counts of a block, for the window `W`. -/
def cntB (i : grid0.Coords) (W : BitVec 32) : FVec Ideal S512x256 .f32 :=
  sitofp .f32 (minsi (addi (k0_pay6 i) (broadcast S512x256 1#32)) (broadcast S512x256 W))

/-- A window mean less the block's own rows. -/
def diffB (T : FVec Ideal S528x256 .f32) (cv h : FVec Ideal S512x256 .f32) : FVec Ideal S512x256 .f32 :=
  subf (divf (extractStridedSlice S512x256 ![16, 0] T slices_S528x256_o16_0_S512x256) cv) h

/-- One group's projection. -/
def projB (e : FVec Ideal S512x256 .f32) (w : Vec Ideal S1x256x256 .bf16) : FVec Ideal S512x256 .f32 :=
  matmul dot_S512x256_S256x256_S512x256_1_0_0_1_n_n none (truncf .bf16 e bitsLt_bf16_f32) (shapeCast S256x256 w shapeCasts_S1x256x256_S256x256 : FVec Ideal S256x256 .bf16) (constant S512x256 .f32 0x00000000#32)

/-- The word of a count, as a number. -/
theorem cnt_word (n W : Nat) (hn : n < 8192) (hW : W ≤ 16) : (((IntOp.minsi (BitVec.ofNat 32 (n + 1)) (BitVec.ofNat 32 W)).toInt : ℝ) : EReal) = cnt W n := by
  have e : ∀ k : Nat, k ≤ 8192 → (BitVec.ofNat 32 k).toInt = (k : ℤ) := fun k hk => by
    rw [BitVec.toInt_eq_toNat_of_lt (by rw [BitVec.toNat_ofNat]; omega), BitVec.toNat_ofNat, Nat.mod_eq_of_lt (by omega)]
  unfold cnt IntOp.minsi
  simp only [BitVec.slt, e (n + 1) (by omega), e W (by omega)]
  by_cases h : n + 1 < W
  · rw [if_pos (by simpa using by exact_mod_cast h), e (n + 1) (by omega), min_eq_left h.le]; simp
  · rw [if_neg (by simpa using by exact_mod_cast (not_lt.1 h)), e W (by omega), min_eq_right (not_lt.1 h)]; simp

theorem cntB_apply (i : grid0.Coords) (W : Nat) (hW : W ≤ 16) (r : Fin 512) (c : Fin 256) :
    cntB i (BitVec.ofNat 32 W) (ix2 r c) = cnt W ((i 1).val * 512 + r.val) := by
  have hi : (i 1).val < 16 := (i 1).isLt
  rw [← cnt_word _ W (by omega) hW]
  pointwise [cntB, k0_pay6]
  have e : IntOp.addi (IntOp.addi (Scalar.muli (BitVec.ofNat 32 (i 1).val) 512#32) (BitVec.ofNat 32 r.val)) 1#32
      = BitVec.ofNat 32 ((i 1).val * 512 + r.val + 1) := by
    simp only [IntOp.addi, Scalar.muli, IntOp.muli, BitVec.ofNat_add, BitVec.ofNat_mul]
  rw [e]
  rfl

theorem diffB_apply (T : FVec Ideal S528x256 .f32) (cv h : FVec Ideal S512x256 .f32) (r : Fin 512) (c : Fin 256) :
    diffB T cv h (ix2 r c) = Ideal.div (T (ix2 ⟨16 + r.val, by omega⟩ c)) (cv (ix2 r c)) - h (ix2 r c) := by
  pointwise [diffB]

theorem projB_apply (e : FVec Ideal S512x256 .f32) (w : Vec Ideal S1x256x256 .bf16) (r : Fin 512) (d : Fin 256) :
    projB e w (ix2 r d) = ∑ c : Fin 256, e (ix2 r c) * w (ix3 0 c d) := by
  pointwise [projB]

/-- The normalized block at row `r`, column `k`. -/
theorem norm_apply (x : Vec Ideal S1x512x1024 .f32) (g : Vec Ideal S1x1024 .f32) (r : Fin 512) (k : Fin 1024) :
    k0_pay4 x g (ix2 r k) = nrm (fun k => x (ix3 0 r k)) (fun k => g (ix2 0 k)) k := by
  pointwise [k0_pay4, k0_pay3, nrm]

/-- A group's channels of the block and of the sixteen rows before it. -/
def hB0 (h : FVec Ideal S512x1024 .f32) : FVec Ideal S512x256 .f32 := extractStridedSlice S512x256 ![0, 0] h slices_S512x1024_o0_0_S512x256
def hB1 (h : FVec Ideal S512x1024 .f32) : FVec Ideal S512x256 .f32 := extractStridedSlice S512x256 ![0, 256] h slices_S512x1024_o0_256_S512x256
def hB2 (h : FVec Ideal S512x1024 .f32) : FVec Ideal S512x256 .f32 := extractStridedSlice S512x256 ![0, 512] h slices_S512x1024_o0_512_S512x256
def hB3 (h : FVec Ideal S512x1024 .f32) : FVec Ideal S512x256 .f32 := extractStridedSlice S512x256 ![0, 768] h slices_S512x1024_o0_768_S512x256
def pB0 (p : FVec Ideal S16x1024 .f32) : FVec Ideal S16x256 .f32 := extractStridedSlice S16x256 ![0, 0] p slices_S16x1024_o0_0_S16x256
def pB1 (p : FVec Ideal S16x1024 .f32) : FVec Ideal S16x256 .f32 := extractStridedSlice S16x256 ![0, 256] p slices_S16x1024_o0_256_S16x256
def pB2 (p : FVec Ideal S16x1024 .f32) : FVec Ideal S16x256 .f32 := extractStridedSlice S16x256 ![0, 512] p slices_S16x1024_o0_512_S16x256
def pB3 (p : FVec Ideal S16x1024 .f32) : FVec Ideal S16x256 .f32 := extractStridedSlice S16x256 ![0, 768] p slices_S16x1024_o0_768_S16x256

/-- The four groups' window means less the block's own rows. -/
def e0 (i : grid0.Coords) (h : FVec Ideal S512x1024 .f32) (p : FVec Ideal S16x1024 .f32) : FVec Ideal S512x256 .f32 :=
  diffB (dbl1 (catB (pB0 p) (hB0 h))) (cntB i 2#32) (hB0 h)
def e1 (i : grid0.Coords) (h : FVec Ideal S512x1024 .f32) (p : FVec Ideal S16x1024 .f32) : FVec Ideal S512x256 .f32 :=
  diffB (dbl2 (dbl1 (catB (pB1 p) (hB1 h)))) (cntB i 4#32) (hB1 h)
def e2 (i : grid0.Coords) (h : FVec Ideal S512x1024 .f32) (p : FVec Ideal S16x1024 .f32) : FVec Ideal S512x256 .f32 :=
  diffB (dbl4 (dbl2 (dbl1 (catB (pB2 p) (hB2 h))))) (cntB i 8#32) (hB2 h)
def e3 (i : grid0.Coords) (h : FVec Ideal S512x1024 .f32) (p : FVec Ideal S16x1024 .f32) : FVec Ideal S512x256 .f32 :=
  diffB (dbl8 (dbl4 (dbl2 (dbl1 (catB (pB3 p) (hB3 h)))))) (cntB i 16#32) (hB3 h)

/-- The stored rows, from the four projections. -/
def storeB (x : FVec Ideal S512x1024 .f32) (y0 y1 y2 y3 : FVec Ideal S512x256 .f32) (b sc : FVec Ideal S1x1024 .f32) : FVec Ideal S512x1024 .f32 :=
  addf x (mulf (addf (concatenate S512x1024 1 [⟨S512x256, y0⟩, ⟨S512x256, y1⟩, ⟨S512x256, y2⟩, ⟨S512x256, y3⟩] concatenates_S512x256_S512x256_S512x256_S512x256_S512x1024_d1)
    (broadcastTo S512x1024 b broadcasts_S1x1024_S512x1024)) (broadcastTo S512x1024 sc broadcasts_S1x1024_S512x1024))

/-- The stored rows of the body, as a composition of these steps. -/
theorem pay13_eq (i : grid0.Coords) (x : Vec Ideal S1x512x1024 .f32) (g : Vec Ideal S1x1024 .f32) (p : Vec Ideal S16x1024 .f32)
    (w0 w1 w2 w3 : Vec Ideal S1x256x256 .bf16) (b sc : Vec Ideal S1x1024 .f32) :
    k0_pay13 (k0_pay3 x) (k0_pay4 x g) p (k0_pay6 i) (k0_pay10 (k0_pay7 x g) (k0_pay8 x g p) (k0_pay9 i) w0) (k0_pay11 (k0_pay4 x g) p (k0_pay6 i) w1)
      (k0_pay12 (k0_pay4 x g) p (k0_pay6 i)) w2 w3 b sc
    = storeB (k0_pay3 x) (projB (e0 i (k0_pay4 x g) p) w0) (projB (e1 i (k0_pay4 x g) p) w1) (projB (e2 i (k0_pay4 x g) p) w2) (projB (e3 i (k0_pay4 x g) p) w3) b sc := by
  unfold k0_pay13 storeB
  simp only [shapeCast_self]
  rfl

/-- The stored rows, one by one, in each of the four groups. -/
theorem storeB_0 (x : FVec Ideal S512x1024 .f32) (y0 y1 y2 y3 : FVec Ideal S512x256 .f32) (b sc : FVec Ideal S1x1024 .f32) (r : Fin 512) (j : Fin 256) :
    storeB x y0 y1 y2 y3 b sc (ix2 r (ch 0 j)) = x (ix2 r (ch 0 j)) + (y0 (ix2 r j) + b (ix2 0 (ch 0 j))) * sc (ix2 0 (ch 0 j)) := by
  have e : (ch 0 j).val = j.val := by show 0 * 256 + j.val = j.val; omega
  pointwise [storeB]
  rw [dif_pos (by omega)]
  simp only [e]
theorem storeB_1 (x : FVec Ideal S512x1024 .f32) (y0 y1 y2 y3 : FVec Ideal S512x256 .f32) (b sc : FVec Ideal S1x1024 .f32) (r : Fin 512) (j : Fin 256) :
    storeB x y0 y1 y2 y3 b sc (ix2 r (ch 1 j)) = x (ix2 r (ch 1 j)) + (y1 (ix2 r j) + b (ix2 0 (ch 1 j))) * sc (ix2 0 (ch 1 j)) := by
  have e : (ch 1 j).val = 256 + j.val := by show 1 * 256 + j.val = _; omega
  pointwise [storeB]
  rw [dif_neg (by omega), dif_pos (by omega)]
  simp only [e, Nat.add_sub_cancel_left]
theorem storeB_2 (x : FVec Ideal S512x1024 .f32) (y0 y1 y2 y3 : FVec Ideal S512x256 .f32) (b sc : FVec Ideal S1x1024 .f32) (r : Fin 512) (j : Fin 256) :
    storeB x y0 y1 y2 y3 b sc (ix2 r (ch 2 j)) = x (ix2 r (ch 2 j)) + (y2 (ix2 r j) + b (ix2 0 (ch 2 j))) * sc (ix2 0 (ch 2 j)) := by
  have e : (ch 2 j).val = 256 + (256 + j.val) := by show 2 * 256 + j.val = _; omega
  pointwise [storeB]
  rw [dif_neg (by omega), dif_neg (by omega), dif_pos (by omega)]
  simp only [e, Nat.add_sub_cancel_left]
theorem storeB_3 (x : FVec Ideal S512x1024 .f32) (y0 y1 y2 y3 : FVec Ideal S512x256 .f32) (b sc : FVec Ideal S1x1024 .f32) (r : Fin 512) (j : Fin 256) :
    storeB x y0 y1 y2 y3 b sc (ix2 r (ch 3 j)) = x (ix2 r (ch 3 j)) + (y3 (ix2 r j) + b (ix2 0 (ch 3 j))) * sc (ix2 0 (ch 3 j)) := by
  have e : (ch 3 j).val = 256 + (256 + (256 + j.val)) := by show 3 * 256 + j.val = _; omega
  pointwise [storeB]
  rw [dif_neg (by omega), dif_neg (by omega), dif_neg (by omega)]
  simp only [e, Nat.add_sub_cancel_left]

/-- A channel of the sixteen rows followed by the block's. -/
def seqG (p : FVec Ideal S16x1024 .f32) (h : FVec Ideal S512x1024 .f32) (d : Fin 1024) (q : Nat) : EReal :=
  if h0 : q < 16 then p (ix2 ⟨q, h0⟩ d) else if h1 : q < 528 then h (ix2 ⟨q - 16, by omega⟩ d) else 0

theorem hB_apply (h : FVec Ideal S512x1024 .f32) (r : Fin 512) (c : Fin 256) :
    hB0 h (ix2 r c) = h (ix2 r (ch 0 c)) ∧ hB1 h (ix2 r c) = h (ix2 r (ch 1 c)) ∧ hB2 h (ix2 r c) = h (ix2 r (ch 2 c)) ∧ hB3 h (ix2 r c) = h (ix2 r (ch 3 c)) := by
  refine ⟨?_, ?_, ?_, ?_⟩
  · pointwise [hB0]
    exact congrArg (fun d => h (ix2 r d)) (Fin.ext (by show c.val = 0 * 256 + c.val; omega))
  · pointwise [hB1]
    exact congrArg (fun d => h (ix2 r d)) (Fin.ext (by show 256 + c.val = 1 * 256 + c.val; omega))
  · pointwise [hB2]
    exact congrArg (fun d => h (ix2 r d)) (Fin.ext (by show 512 + c.val = 2 * 256 + c.val; omega))
  · pointwise [hB3]
    exact congrArg (fun d => h (ix2 r d)) (Fin.ext (by show 768 + c.val = 3 * 256 + c.val; omega))

theorem pB_apply (h : FVec Ideal S16x1024 .f32) (r : Fin 16) (c : Fin 256) :
    pB0 h (ix2 r c) = h (ix2 r (ch 0 c)) ∧ pB1 h (ix2 r c) = h (ix2 r (ch 1 c)) ∧ pB2 h (ix2 r c) = h (ix2 r (ch 2 c)) ∧ pB3 h (ix2 r c) = h (ix2 r (ch 3 c)) := by
  refine ⟨?_, ?_, ?_, ?_⟩
  · pointwise [pB0]
    exact congrArg (fun d => h (ix2 r d)) (Fin.ext (by show c.val = 0 * 256 + c.val; omega))
  · pointwise [pB1]
    exact congrArg (fun d => h (ix2 r d)) (Fin.ext (by show 256 + c.val = 1 * 256 + c.val; omega))
  · pointwise [pB2]
    exact congrArg (fun d => h (ix2 r d)) (Fin.ext (by show 512 + c.val = 2 * 256 + c.val; omega))
  · pointwise [pB3]
    exact congrArg (fun d => h (ix2 r d)) (Fin.ext (by show 768 + c.val = 3 * 256 + c.val; omega))

theorem seqB_eq (p : FVec Ideal S16x1024 .f32) (h : FVec Ideal S512x1024 .f32) (c : Fin 256) :
    seqB (pB0 p) (hB0 h) c = seqG p h (ch 0 c) ∧ seqB (pB1 p) (hB1 h) c = seqG p h (ch 1 c)
    ∧ seqB (pB2 p) (hB2 h) c = seqG p h (ch 2 c) ∧ seqB (pB3 p) (hB3 h) c = seqG p h (ch 3 c) := by
  refine ⟨?_, ?_, ?_, ?_⟩ <;> funext q <;> simp only [seqB, seqG, hB_apply, pB_apply]

theorem e_apply (i : grid0.Coords) (h : FVec Ideal S512x1024 .f32) (p : FVec Ideal S16x1024 .f32) (r : Fin 512) (c : Fin 256) :
    e0 i h p (ix2 r c) = Ideal.div (wsum (seqG p h (ch 0 c)) 2 (16 + r.val)) (cnt 2 ((i 1).val * 512 + r.val)) - h (ix2 r (ch 0 c))
    ∧ e1 i h p (ix2 r c) = Ideal.div (wsum (seqG p h (ch 1 c)) 4 (16 + r.val)) (cnt 4 ((i 1).val * 512 + r.val)) - h (ix2 r (ch 1 c))
    ∧ e2 i h p (ix2 r c) = Ideal.div (wsum (seqG p h (ch 2 c)) 8 (16 + r.val)) (cnt 8 ((i 1).val * 512 + r.val)) - h (ix2 r (ch 2 c))
    ∧ e3 i h p (ix2 r c) = Ideal.div (wsum (seqG p h (ch 3 c)) 16 (16 + r.val)) (cnt 16 ((i 1).val * 512 + r.val)) - h (ix2 r (ch 3 c)) := by
  refine ⟨?_, ?_, ?_, ?_⟩
  · rw [e0, diffB_apply, cntB_apply i 2 (by omega), holds1 _ _ (holds_cat _ _) _ _ (by show 2 ≤ 16 + r.val + 1; omega), (seqB_eq p h c).1, (hB_apply h r c).1]
  · rw [e1, diffB_apply, cntB_apply i 4 (by omega), holds2 _ _ (holds1 _ _ (holds_cat _ _)) _ _ (by show 4 ≤ 16 + r.val + 1; omega), (seqB_eq p h c).2.1, (hB_apply h r c).2.1]
  · rw [e2, diffB_apply, cntB_apply i 8 (by omega), holds4 _ _ (holds2 _ _ (holds1 _ _ (holds_cat _ _))) _ _ (by show 8 ≤ 16 + r.val + 1; omega), (seqB_eq p h c).2.2.1, (hB_apply h r c).2.2.1]
  · rw [e3, diffB_apply, cntB_apply i 16 (by omega), holds8 _ _ (holds4 _ _ (holds2 _ _ (holds1 _ _ (holds_cat _ _)))) _ _ (by show 16 ≤ 16 + r.val + 1; omega), (seqB_eq p h c).2.2.2, (hB_apply h r c).2.2.2]

/-- The stored rows of a block at channel `j` of group `k`. -/
theorem stored_apply (i : grid0.Coords) (x : FVec Ideal S512x1024 .f32) (h : FVec Ideal S512x1024 .f32) (p : FVec Ideal S16x1024 .f32)
    (w : Fin 4 → Vec Ideal S1x256x256 .bf16) (b sc : FVec Ideal S1x1024 .f32) (r : Fin 512) (k : Fin 4) (j : Fin 256) :
    storeB x (projB (e0 i h p) (w 0)) (projB (e1 i h p) (w 1)) (projB (e2 i h p) (w 2)) (projB (e3 i h p) (w 3)) b sc (ix2 r (ch k j))
      = x (ix2 r (ch k j)) + (grp (fun c => seqG p h (ch k c)) (2 ^ (k.val + 1)) (16 + r.val) ((i 1).val * 512 + r.val) (fun c => h (ix2 r (ch k c)))
          (fun c j => w k (ix3 0 c j)) j + b (ix2 0 (ch k j))) * sc (ix2 0 (ch k j)) := by
  unfold grp
  match k with
  | 0 => rw [storeB_0, projB_apply]; simp only [(e_apply i h p r _).1]; rfl
  | 1 => rw [storeB_1, projB_apply]; simp only [(e_apply i h p r _).2.1]; rfl
  | 2 => rw [storeB_2, projB_apply]; simp only [(e_apply i h p r _).2.2.1]; rfl
  | 3 => rw [storeB_3, projB_apply]; simp only [(e_apply i h p r _).2.2.2]; rfl

end Cert.PoolIdeal.PoolValue

end
-- ==== Proof.PoolCase.lean ====
/-
  The pooling kernel's body, case by case: what the output block and the carried rows hold after a point.
-/
module

public import proofs.«01_k».proof.Proof.PoolBlock
public import proofs.«01_k».proof.Proof.Gen.PoolIdeal.Frame
public import Idealize.ShloMosaic.Lib.Pipeline.Value
public import Idealize.ShloMosaic.Lib.Tactic

@[expose] public section

set_option maxRecDepth 16384

noncomputable section

namespace Cert.PoolIdeal.PoolValue

open Cert.PoolIdeal Cert.PoolIdeal.Gen Idealize.ShloMosaic Idealize.ShloMosaic.TcCoe Idealize.SL.Sem Cert.Rows

/-- A two-axis offset of zeros is the zero offset. -/
theorem hz2 : (![0, 0] : Fin 2 → Nat) = fun _ => 0 := funext fun a => by fin_cases a <;> rfl
/-- A three-axis offset of zeros is the zero offset. -/
theorem hz3 : (![0, 0, 0] : Fin 3 → Nat) = fun _ => 0 := funext fun a => by fin_cases a <;> rfl

/-- The four groups' weights. -/
def wsl (w : Vec Ideal S4x256x256 .bf16) (k : Fin 4) : Vec Ideal S1x256x256 .bf16 :=
  match k with
  | 0 => View.ld w (Rect.unit ![0, 0, 0] ![1, 256, 256] inb_S4x256x256_S1x256x256_0_0_0)
  | 1 => View.ld w (Rect.unit ![1, 0, 0] ![1, 256, 256] inb_S4x256x256_S1x256x256_1_0_0)
  | 2 => View.ld w (Rect.unit ![2, 0, 0] ![1, 256, 256] inb_S4x256x256_S1x256x256_2_0_0)
  | 3 => View.ld w (Rect.unit ![3, 0, 0] ![1, 256, 256] inb_S4x256x256_S1x256x256_3_0_0)

/-- They one by one. -/
theorem wsl_apply (w : Vec Ideal S4x256x256 .bf16) (k : Fin 4) (c j : Fin 256) : wsl w k (ix3 0 c j) = w (ix3 k c j) := by
  match k with
  | 0 => show View.ld w _ _ = _; pointwise []
  | 1 => show View.ld w _ _ = _; pointwise []
  | 2 => show View.ld w _ _ = _; pointwise []
  | 3 => show View.ld w _ _ = _; pointwise []

/-- The block the body stores, from its inputs and the sixteen normalized rows `p` before the block. -/
def oblk (i : grid0.Coords) (x : Vec Ideal S1x512x1024 .f32) (g : Vec Ideal S1x1024 .f32) (w : Vec Ideal S4x256x256 .bf16) (b sc : Vec Ideal S1x1024 .f32)
    (p : Vec Ideal S16x1024 .f32) : Vec Ideal S1x512x1024 .f32 :=
  k0_pay1 (k0_pay13 (k0_pay3 x) (k0_pay4 x g) p (k0_pay6 i) (k0_pay10 (k0_pay7 x g) (k0_pay8 x g p) (k0_pay9 i) (wsl w 0)) (k0_pay11 (k0_pay4 x g) p (k0_pay6 i) (wsl w 1))
      (k0_pay12 (k0_pay4 x g) p (k0_pay6 i)) (wsl w 2) (wsl w 3) b sc)

variable (c : Dev nD) (i : grid0.Coords) (a2 : Memref sig .tc .vmem S1x512x1024 .f32) (h2 : a2.IsWhole) (a3 : Memref sig .tc .vmem S1x1024 .f32) (h3 : a3.IsWhole)
  (a4 : Memref sig .tc .vmem S4x256x256 .bf16) (h4 : a4.IsWhole) (a5 : Memref sig .tc .vmem S1x1024 .f32) (h5 : a5.IsWhole) (a6 : Memref sig .tc .vmem S1x1024 .f32) (h6 : a6.IsWhole)
  (a7 : Memref sig .tc .vmem S1x512x1024 .f32) (h7 : a7.IsWhole) (a8 : Memref sig .tc .vmem S16x1024 .f32) (h8 : a8.IsWhole)
  (x : Vec Ideal S1x512x1024 .f32) (g : Vec Ideal S1x1024 .f32) (w : Vec Ideal S4x256x256 .bf16) (b sc : Vec Ideal S1x1024 .f32)

/-- After a point inside a sequence, the carried rows are the block's last normalized rows. -/
theorem sout_B (hc : ¬cond0_0 i) (p : Vec Ideal S16x1024 .f32) :
    sout0_B_0 c i a2 h2 a3 h3 a4 h4 a5 h5 a6 h6 a7 h7 a8 h8 hc x g w b sc p = k0_pay5 x g := by
  unfold sout0_B_0
  rw [View.read_writes_eq_canon _ _ _ (scover0_B_0 c i a2 h2 a3 h3 a4 h4 a5 h5 a6 h6 a7 h7 a8 h8 hc x g w b sc p)]
  unfold kernelRun0_B
  dsimp only
  sl_unfold_words
  rw [View.canon_unit_zero hz2]
  simp only [View.readAt_eq_ld, h2.read_unread, h3.read_unread, h4.read_unread, h5.read_unread, h6.read_unread, h8.read_unread, View.ld_unit_zero (S := S1x512x1024) hz3, View.ld_unit_zero (S := S1x1024) hz2, View.ld_unit_zero (S := S16x1024) hz2, shapeCast_self]
  try rfl

/-- A point inside a sequence stores the block's mix over the carried rows. -/
theorem out_B (hc : ¬cond0_0 i) (p : Vec Ideal S16x1024 .f32) :
    out0_B_5 c i a2 h2 a3 h3 a4 h4 a5 h5 a6 h6 a7 h7 a8 h8 hc x g w b sc p = oblk i x g w b sc p := by
  unfold out0_B_5
  rw [View.read_writes_eq_canon _ _ _ (cover0_B_5 c i a2 h2 a3 h3 a4 h4 a5 h5 a6 h6 a7 h7 a8 h8 hc x g w b sc p)]
  unfold kernelRun0_B
  dsimp only
  sl_unfold_words
  rw [View.canon_unit_zero hz3]
  simp only [View.readAt_eq_ld, h2.read_unread, h3.read_unread, h4.read_unread, h5.read_unread, h6.read_unread, h8.read_unread, View.ld_unit_zero (S := S1x512x1024) hz3, View.ld_unit_zero (S := S1x1024) hz2, View.ld_unit_zero (S := S16x1024) hz2, shapeCast_self]
  rfl

/-- After a sequence's first point, too. -/
theorem sout_A (hc : cond0_0 i)  :
    sout0_A_0 c i a2 h2 a3 h3 a4 h4 a5 h5 a6 h6 a7 h7 a8 h8 hc x g w b sc = k0_pay5 x g := by
  unfold sout0_A_0
  rw [View.read_writes_eq_canon _ _ _ (scover0_A_0 c i a2 h2 a3 h3 a4 h4 a5 h5 a6 h6 a7 h7 a8 h8 hc x g w b sc)]
  unfold kernelRun0_A
  dsimp only
  sl_unfold_words
  rw [View.canon_cons_unit_zero (S := S16x1024) hz2]
  simp only [View.readAt_eq_ld, h2.read_unread, h3.read_unread, h4.read_unread, h5.read_unread, h6.read_unread, h8.read_unread, View.ld_unit_zero (S := S1x512x1024) hz3, View.ld_unit_zero (S := S1x1024) hz2, View.ld_unit_zero (S := S16x1024) hz2, shapeCast_self]
  try rfl

/-- A sequence's first point stores the block's mix over zero rows. -/
theorem out_A (hc : cond0_0 i) :
    out0_A_5 c i a2 h2 a3 h3 a4 h4 a5 h5 a6 h6 a7 h7 a8 h8 hc x g w b sc = oblk i x g w b sc (k0_pay2 : FVec Ideal S16x1024 .f32) := by
  unfold out0_A_5
  rw [View.read_writes_eq_canon _ _ _ (cover0_A_5 c i a2 h2 a3 h3 a4 h4 a5 h5 a6 h6 a7 h7 a8 h8 hc x g w b sc)]
  unfold kernelRun0_A
  dsimp only
  sl_unfold_words
  rw [View.canon_unit_zero hz3]
  simp only [View.readAt_eq_ld, h2.read_unread, h3.read_unread, h4.read_unread, h5.read_unread, h6.read_unread, h8.read_unread, View.ld_unit_zero (S := S1x512x1024) hz3, View.ld_unit_zero (S := S1x1024) hz2, View.readCov_unit_zero (S := S16x1024) _ hz2, View.ld_unit_zero (S := S16x1024) hz2, shapeCast_self]
  rfl

/-- The rows handed on, one by one. -/
theorem tail_apply (r : Fin 16) (d : Fin 1024) :
    (k0_pay5 x g : FVec Ideal S16x1024 .f32) (ix2 r d) = nrm (fun k => x (ix3 0 (⟨496 + r.val, by omega⟩ : Fin 512) k)) (fun k => g (ix2 0 k)) d := by
  rw [← norm_apply]
  have e : k0_pay5 x g = extractStridedSlice S16x1024 ![496, 0] (k0_pay4 x g) slices_S512x1024_o496_0_S16x1024 := by
    unfold k0_pay5
    simp only [shapeCast_self]
  rw [e]
  pointwise []

/-- The stored block, row by row. -/
theorem oblk_apply (p : FVec Ideal S16x1024 .f32) (r : Fin 512) (k : Fin 4) (j : Fin 256) :
    oblk i x g w b sc p (ix3 0 r (ch k j)) = x (ix3 0 r (ch k j)) + (grp (fun c => seqG p (k0_pay4 x g) (ch k c)) (2 ^ (k.val + 1)) (16 + r.val) ((i 1).val * 512 + r.val)
        (fun c => nrm (fun k => x (ix3 0 r k)) (fun k => g (ix2 0 k)) (ch k c)) (fun c j => w (ix3 k c j)) j + b (ix2 0 (ch k j))) * sc (ix2 0 (ch k j)) := by
  have e : ∀ o : FVec Ideal S512x1024 .f32, k0_pay1 o (ix3 0 r (ch k j)) = o (ix2 r (ch k j)) := by
    intro o
    pointwise [k0_pay1]
  have e3 : ∀ d, k0_pay3 x (ix2 r d) = x (ix3 0 r d) := by intro d; pointwise [k0_pay3]
  unfold oblk
  rw [e, pay13_eq, stored_apply]
  simp only [e3, norm_apply, wsl_apply]

/-- The zero rows. -/
theorem pay2_apply (r : Fin 16) (d : Fin 1024) : (k0_pay2 : FVec Ideal S16x1024 .f32) (ix2 r d) = 0 := by
  pointwise [k0_pay2]

end Cert.PoolIdeal.PoolValue

end
-- ==== Proof.PoolArray.lean ====
/-
  The pooling kernel's result array, index by index.
-/
module

public import proofs.«01_k».proof.Proof.Gen.PoolIdeal.Value
public import proofs.«01_k».proof.Proof.PoolCase
public import Idealize.ShloMosaic.Lib.Claim

@[expose] public section

set_option maxRecDepth 16384

noncomputable section

namespace Cert.PoolIdeal.PoolValue

open Cert.PoolIdeal Cert.PoolIdeal.Gen Idealize.ShloMosaic Idealize.ShloMosaic.TcCoe Idealize.SL.Sem Cert.Rows

variable (m : (ℓ : Loc nD τ sig) → Buf (Elt Ideal) ℓ) (ρ : Dev nD → PrngReg)

/-- The input sequence `b`. -/
abbrev X (c : Dev nD) (b : Fin 8) : Fin 8192 → Fin 1024 → EReal := fun s k => m ((c : Thread nD τ).loc main_arg0) (ix3 b s k)
/-- The normalization's scale. -/
abbrev G (c : Dev nD) : Fin 1024 → EReal := fun k => m ((c : Thread nD τ).loc main_arg1) (ix1 k)
/-- The groups' projection weights. -/
abbrev W (c : Dev nD) : Fin 4 → Fin 256 → Fin 256 → EReal := fun k a j => m ((c : Thread nD τ).loc main_arg2) (ix3 k a j)
/-- The bias. -/
abbrev B (c : Dev nD) : Fin 1024 → EReal := fun k => m ((c : Thread nD τ).loc main_arg3) (ix1 k)
/-- The output's scale. -/
abbrev SC (c : Dev nD) : Fin 1024 → EReal := fun k => m ((c : Thread nD τ).loc main_arg4) (ix1 k)

/-- The result array: the mixer of every sequence. -/
def result (c : Dev nD) : Buf (Elt Ideal) ((c : Thread nD τ).loc main_v4) := fun i =>
  poolRow (X m c (i 0)) (G m c) (W m c) (B m c) (SC m c) (i 1) (grpIx (i 2)) (inIx (i 2))

/-- Where the windows of point `t` sit: rows `512·(t mod 16) …` of sequence `t / 16`, the other operands whole. -/
theorem idx_facts : ∀ t : Fin cfg0.N,
    (win0_0.index t (0 : Fin 3) = t.val / 16 ∧ win0_0.index t (1 : Fin 3) = t.val % 16 ∧ win0_0.index t (2 : Fin 3) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 16 ∧ win0_5.index t (1 : Fin 3) = t.val % 16 ∧ win0_5.index t (2 : Fin 3) = 0)
    ∧ (grid0.coords t 1).val = t.val % 16 :=
  (by decide +kernel : ∀ t : Fin grid0.N,
    (win0_0.index t (0 : Fin 3) = t.val / 16 ∧ win0_0.index t (1 : Fin 3) = t.val % 16 ∧ win0_0.index t (2 : Fin 3) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 16 ∧ win0_5.index t (1 : Fin 3) = t.val % 16 ∧ win0_5.index t (2 : Fin 3) = 0)
    ∧ (grid0.coords t 1).val = t.val % 16)

/-- The grid has 128 points. -/
theorem lt_N (t : Fin cfg0.N) : t.val < 128 := by have := t.isLt; have h : cfg0.N = 128 := N_0; omega

/-- The scale as a one-row matrix. -/
theorem entry_g (c : Dev nD) (k : Fin 1024) :
    V m c main_v0 (ix2 0 k : S1x1024.Idx) = G m c k := by
  entry_read
  pointwise []

/-- The weights, rounded: the weights themselves. -/
theorem entry_w (c : Dev nD) (k : Fin 4) (a j : Fin 256) :
    V m c main_v1 (ix3 k a j : S4x256x256.Idx) = W m c k a j := by
  entry_read
  pointwise []

/-- The bias as a one-row matrix. -/
theorem entry_b (c : Dev nD) (k : Fin 1024) :
    V m c main_v2 (ix2 0 k : S1x1024.Idx) = B m c k := by
  entry_read
  pointwise []

/-- The output's scale as a one-row matrix. -/
theorem entry_sc (c : Dev nD) (k : Fin 1024) :
    V m c main_v3 (ix2 0 k : S1x1024.Idx) = SC m c k := by
  entry_read
  pointwise []

/-- The input block at point `t`, row `r`: position `512·(t mod 16) + r` of sequence `t / 16`. -/
theorem iblk0 (c : Dev nD) (t : Fin cfg0.N) (r : Fin 512) (k : Fin 1024) :
    (iblk m c 0 t : Vec Ideal S1x512x1024 .f32) (ix3 0 r k)
      = X m c ⟨t.val / 16, by have := lt_N t; omega⟩ ⟨t.val % 16 * 512 + r.val, by omega⟩ k := by
  have hi := (idx_facts t).1
  have ht := lt_N t
  have e : ((cfg0.win 0).blk t).view.emb (ix3 0 r k)
      = (ix3 (⟨t.val / 16, by omega⟩ : Fin 8) (⟨t.val % 16 * 512 + r.val, by omega⟩ : Fin 8192) k : S8x8192x1024.Idx) := by
    funext a
    apply Fin.ext
    match a with
    | ⟨0, _⟩ => show win0_0.index t (0 : Fin 3) * 1 + 1 * 0 = t.val / 16; rw [hi.1]; omega
    | ⟨1, _⟩ => show win0_0.index t (1 : Fin 3) * 512 + 1 * r.val = t.val % 16 * 512 + r.val; rw [hi.2.1]; omega
    | ⟨2, _⟩ => show win0_0.index t (2 : Fin 3) * 1024 + 1 * k.val = k.val; rw [hi.2.2]; omega
  show V m c main_arg0 (((cfg0.win 0).blk t).view.emb (ix3 0 r k)) = _
  rw [e, V_main_arg0]

/-- The scale's block is the scale. -/
theorem iblk1 (c : Dev nD) (t : Fin cfg0.N) (k : Fin 1024) :
    (iblk m c 1 t : Vec Ideal S1x1024 .f32) (ix2 0 k) = G m c k := by
  have hi := (idx_facts t).2.1
  have e : ((cfg0.win 1).blk t).view.emb (ix2 0 k) = (ix2 0 k : S1x1024.Idx) := by
    funext a
    apply Fin.ext
    match a with
    | ⟨0, _⟩ => show win0_1.index t (0 : Fin 2) * 1 + 1 * 0 = 0; rw [hi.1]
    | ⟨1, _⟩ => show win0_1.index t (1 : Fin 2) * 1024 + 1 * k.val = k.val; rw [hi.2]; omega
  show V m c main_v0 (((cfg0.win 1).blk t).view.emb (ix2 0 k)) = _
  rw [e, entry_g]

/-- The weights' block is the weights. -/
theorem iblk2 (c : Dev nD) (t : Fin cfg0.N) (k : Fin 4) (a j : Fin 256) :
    (iblk m c 2 t : Vec Ideal S4x256x256 .bf16) (ix3 k a j) = W m c k a j := by
  have hi := (idx_facts t).2.2.1
  have e : ((cfg0.win 2).blk t).view.emb (ix3 k a j) = (ix3 k a j : S4x256x256.Idx) := by
    funext b
    apply Fin.ext
    match b with
    | ⟨0, _⟩ => show win0_2.index t (0 : Fin 3) * 4 + 1 * k.val = k.val; rw [hi.1]; omega
    | ⟨1, _⟩ => show win0_2.index t (1 : Fin 3) * 256 + 1 * a.val = a.val; rw [hi.2.1]; omega
    | ⟨2, _⟩ => show win0_2.index t (2 : Fin 3) * 256 + 1 * j.val = j.val; rw [hi.2.2]; omega
  show V m c main_v1 (((cfg0.win 2).blk t).view.emb (ix3 k a j)) = _
  rw [e, entry_w]

/-- The bias's block is the bias. -/
theorem iblk3 (c : Dev nD) (t : Fin cfg0.N) (k : Fin 1024) :
    (iblk m c 3 t : Vec Ideal S1x1024 .f32) (ix2 0 k) = B m c k := by
  have hi := (idx_facts t).2.2.2.1
  have e : ((cfg0.win 3).blk t).view.emb (ix2 0 k) = (ix2 0 k : S1x1024.Idx) := by
    funext a
    apply Fin.ext
    match a with
    | ⟨0, _⟩ => show win0_3.index t (0 : Fin 2) * 1 + 1 * 0 = 0; rw [hi.1]
    | ⟨1, _⟩ => show win0_3.index t (1 : Fin 2) * 1024 + 1 * k.val = k.val; rw [hi.2]; omega
  show V m c main_v2 (((cfg0.win 3).blk t).view.emb (ix2 0 k)) = _
  rw [e, entry_b]

/-- The scale's block is the scale. -/
theorem iblk4 (c : Dev nD) (t : Fin cfg0.N) (k : Fin 1024) :
    (iblk m c 4 t : Vec Ideal S1x1024 .f32) (ix2 0 k) = SC m c k := by
  have hi := (idx_facts t).2.2.2.2.1
  have e : ((cfg0.win 4).blk t).view.emb (ix2 0 k) = (ix2 0 k : S1x1024.Idx) := by
    funext a
    apply Fin.ext
    match a with
    | ⟨0, _⟩ => show win0_4.index t (0 : Fin 2) * 1 + 1 * 0 = 0; rw [hi.1]
    | ⟨1, _⟩ => show win0_4.index t (1 : Fin 2) * 1024 + 1 * k.val = k.val; rw [hi.2]; omega
  show V m c main_v3 (((cfg0.win 4).blk t).view.emb (ix2 0 k)) = _
  rw [e, entry_sc]

/-- What a point leaves in the carried rows: its block's last normalized rows. -/
theorem carried (c : Dev nD) (t : Fin cfg0.N) :
    (outsAt0 m c t.val t.isLt).2 = (k0_pay5 (iblk m c 0 t) (iblk m c 1 t) : FVec Ideal S16x1024 .f32) := by
  by_cases h0 : t.val % 16 = 0
  · rw [outsAt0_A m c t h0]; dsimp only; rw [sout_A]
  · rw [outsAt0_B m c t h0]; dsimp only; rw [sout_B]

/-- The normalized rows of the block at point `t`, one by one. -/
theorem hblk_at (c : Dev nD) (t : Fin cfg0.N) (r : Fin 512) (d : Fin 1024) :
    k0_pay4 (iblk m c 0 t) (iblk m c 1 t) (ix2 r d)
      = nseq (X m c ⟨t.val / 16, by have := lt_N t; omega⟩) (G m c) d (t.val % 16 * 512 + r.val) := by
  rw [norm_apply]
  unfold nseq
  rw [dif_pos (by omega)]
  simp only [iblk0, iblk1]

/-- The rows the point before `t` hands on: the normalized rows of the sixteen positions before `t`'s block. -/
theorem tail_at (c : Dev nD) (t : Fin cfg0.N) (h0 : ¬ t.val % 16 = 0) (r : Fin 16) (d : Fin 1024) :
    (outsAt0 m c (t.val - 1) (Nat.lt_of_le_of_lt (Nat.sub_le _ _) t.isLt)).2 (ix2 r d)
      = nseq (X m c ⟨t.val / 16, by have := lt_N t; omega⟩) (G m c) d (t.val % 16 * 512 + r.val - 16) := by
  have ht := lt_N t
  have e := carried m c ⟨t.val - 1, Nat.lt_of_le_of_lt (Nat.sub_le _ _) t.isLt⟩
  rw [show (outsAt0 m c (t.val - 1) (Nat.lt_of_le_of_lt (Nat.sub_le _ _) t.isLt)).2 = _ from e, tail_apply]
  simp only [iblk0, iblk1]
  unfold nseq
  rw [dif_pos (by omega)]
  have e1 : (⟨(t.val - 1) / 16, by omega⟩ : Fin 8) = ⟨t.val / 16, by omega⟩ := Fin.ext (by show (t.val - 1) / 16 = t.val / 16; omega)
  have e2 : (⟨(t.val - 1) % 16 * 512 + (496 + r.val), by omega⟩ : Fin 8192) = ⟨t.val % 16 * 512 + r.val - 16, by omega⟩ :=
    Fin.ext (by show (t.val - 1) % 16 * 512 + (496 + r.val) = t.val % 16 * 512 + r.val - 16; omega)
  rw [e1, e2]

/-- Windows whose terms agree have the same sum. -/
theorem wsum_congr (f f' : Nat → EReal) (W s s' : Nat) (h : ∀ n, n < W → (if n ≤ s then f (s - n) else 0) = (if n ≤ s' then f' (s' - n) else 0)) :
    wsum f W s = wsum f' W s' := Finset.sum_congr rfl fun n hn => h n (Finset.mem_range.mp hn)

/-- A window of the rows at hand is the sequence's, when the sixteen rows before the block are the sequence's or, before it begins, zero. -/
theorem win_eq (c : Dev nD) (t : Fin cfg0.N) (p : FVec Ideal S16x1024 .f32) (d : Fin 1024)
    (hp : ∀ r : Fin 16, p (ix2 r d) = if 16 ≤ t.val % 16 * 512 + r.val then nseq (X m c ⟨t.val / 16, by have := lt_N t; omega⟩) (G m c) d (t.val % 16 * 512 + r.val - 16) else 0)
    (W : Nat) (hW : W ≤ 16) (r : Fin 512) :
    wsum (seqG p (k0_pay4 (iblk m c 0 t) (iblk m c 1 t)) d) W (16 + r.val)
      = wsum (nseq (X m c ⟨t.val / 16, by have := lt_N t; omega⟩) (G m c) d) W (t.val % 16 * 512 + r.val) := by
  apply wsum_congr
  intro n hn
  rw [if_pos (by omega)]
  unfold seqG
  by_cases h : n ≤ r.val
  · rw [dif_neg (by omega), dif_pos (by omega), if_pos (by omega), hblk_at]
    exact congrArg _ (by show t.val % 16 * 512 + (16 + r.val - n - 16) = _; omega)
  · rw [dif_pos (by omega), hp]
    by_cases h' : n ≤ t.val % 16 * 512 + r.val
    · rw [if_pos (by dsimp only; omega), if_pos h']
      exact congrArg _ (by show t.val % 16 * 512 + (16 + r.val - n) - 16 = _; omega)
    · rw [if_neg (by dsimp only; omega), if_neg h']

/-- The block stored over sixteen such rows. -/
theorem block_of (c : Dev nD) (t : Fin cfg0.N) (p : FVec Ideal S16x1024 .f32)
    (hp : ∀ (r : Fin 16) (d : Fin 1024), p (ix2 r d) = if 16 ≤ t.val % 16 * 512 + r.val then nseq (X m c ⟨t.val / 16, by have := lt_N t; omega⟩) (G m c) d (t.val % 16 * 512 + r.val - 16) else 0)
    (r : Fin 512) (k : Fin 4) (j : Fin 256) :
    oblk (grid0.coords t) (iblk m c 0 t) (iblk m c 1 t) (iblk m c 2 t) (iblk m c 3 t) (iblk m c 4 t) p (ix3 0 r (ch k j))
      = poolRow (X m c ⟨t.val / 16, by have := lt_N t; omega⟩) (G m c) (W m c) (B m c) (SC m c) ⟨t.val % 16 * 512 + r.val, by omega⟩ k j := by
  have hW : 2 ^ (k.val + 1) ≤ 16 := by
    match k with
    | 0 => decide
    | 1 => decide
    | 2 => decide
    | 3 => decide
  rw [oblk_apply]
  unfold poolRow grp
  simp only [iblk0, iblk1, iblk2, iblk3, iblk4, win_eq m c t p _ (fun r => hp r _) _ hW, (idx_facts t).2.2.2.2.2.2]

/-- The block a sequence's first point stores. -/
theorem block_A (c : Dev nD) (t : Fin cfg0.N) (h0 : t.val % 16 = 0) (r : Fin 512) (k : Fin 4) (j : Fin 256) :
    oblk (grid0.coords t) (iblk m c 0 t) (iblk m c 1 t) (iblk m c 2 t) (iblk m c 3 t) (iblk m c 4 t) (k0_pay2 : FVec Ideal S16x1024 .f32) (ix3 0 r (ch k j))
      = poolRow (X m c ⟨t.val / 16, by have := lt_N t; omega⟩) (G m c) (W m c) (B m c) (SC m c) ⟨t.val % 16 * 512 + r.val, by omega⟩ k j :=
  block_of m c t _ (fun r d => by rw [pay2_apply, if_neg (by omega)]) r k j

/-- The block a later point stores. -/
theorem block_B (c : Dev nD) (t : Fin cfg0.N) (h0 : ¬ t.val % 16 = 0) (r : Fin 512) (k : Fin 4) (j : Fin 256) :
    oblk (grid0.coords t) (iblk m c 0 t) (iblk m c 1 t) (iblk m c 2 t) (iblk m c 3 t) (iblk m c 4 t)
        (outsAt0 m c (t.val - 1) (Nat.lt_of_le_of_lt (Nat.sub_le _ _) t.isLt)).2 (ix3 0 r (ch k j))
      = poolRow (X m c ⟨t.val / 16, by have := lt_N t; omega⟩) (G m c) (W m c) (B m c) (SC m c) ⟨t.val % 16 * 512 + r.val, by omega⟩ k j :=
  block_of m c t _ (fun r d => by rw [tail_at m c t h0, if_pos (by omega)]) r k j

/-- What point `t` writes back is block `t` of the result. -/
theorem flushed_eq (c : Dev nD) (t : Fin cfg0.N) :
    (dats m 0 c).flushed 5 t = ((cfg0.win 5).blk t).view.read (Elt Ideal) (result m c) := by
  have hi := (idx_facts t).2.2.2.2.2.1
  have ht := lt_N t
  have e : ∀ (r : Fin 512) (d : Fin 1024), ((cfg0.win 5).blk t).view.emb (ix3 0 r d)
      = (ix3 (⟨t.val / 16, by omega⟩ : Fin 8) (⟨t.val % 16 * 512 + r.val, by omega⟩ : Fin 8192) d : S8x8192x1024.Idx) := by
    intro r d
    funext a
    apply Fin.ext
    match a with
    | ⟨0, _⟩ => show win0_5.index t (0 : Fin 3) * 1 + 1 * 0 = t.val / 16; rw [hi.1]; omega
    | ⟨1, _⟩ => show win0_5.index t (1 : Fin 3) * 512 + 1 * r.val = t.val % 16 * 512 + r.val; rw [hi.2.1]; omega
    | ⟨2, _⟩ => show win0_5.index t (2 : Fin 3) * 1024 + 1 * d.val = d.val; rw [hi.2.2]; omega
  by_cases h0 : t.val % 16 = 0
  · rw [Value.flushed5_A m c t h0, out_A]
    refine funext fun (j : S1x512x1024.Idx) => ?_
    obtain ⟨r, d, rfl⟩ : ∃ (r : Fin 512) (d : Fin 1024), j = ix3 0 r d := ⟨j 1, j 2, by
      have h := eq_ix3 j; rwa [show j 0 = (0 : Fin 1) from Subsingleton.elim (α := Fin 1) _ _] at h⟩
    show oblk (grid0.coords t) (iblk m c 0 t) (iblk m c 1 t) (iblk m c 2 t) (iblk m c 3 t) (iblk m c 4 t) (k0_pay2 : FVec Ideal S16x1024 .f32) (ix3 0 r d)
      = result m c (((cfg0.win 5).blk t).view.emb (ix3 0 r d))
    rw [e, ← ch_eq d, block_A m c t h0]
    show _ = poolRow _ _ _ _ _ _ (grpIx (ch (grpIx d) (inIx d))) (inIx (ch (grpIx d) (inIx d)))
    rw [ch_eq]
    rfl
  · rw [Value.flushed5_B m c t h0, out_B]
    refine funext fun (j : S1x512x1024.Idx) => ?_
    obtain ⟨r, d, rfl⟩ : ∃ (r : Fin 512) (d : Fin 1024), j = ix3 0 r d := ⟨j 1, j 2, by
      have h := eq_ix3 j; rwa [show j 0 = (0 : Fin 1) from Subsingleton.elim (α := Fin 1) _ _] at h⟩
    show oblk (grid0.coords t) (iblk m c 0 t) (iblk m c 1 t) (iblk m c 2 t) (iblk m c 3 t) (iblk m c 4 t) _ (ix3 0 r d)
      = result m c (((cfg0.win 5).blk t).view.emb (ix3 0 r d))
    rw [e, ← ch_eq d, block_B m c t h0]
    show _ = poolRow _ _ _ _ _ _ (grpIx (ch (grpIx d) (inIx d))) (inIx (ch (grpIx d) (inIx d)))
    rw [ch_eq]
    rfl

/-- The blocks tile the result array. -/
theorem cover (i : S8x8192x1024.Idx) :
    ∃ t : Fin cfg0.N, (cfg0.win 5).flush t = true ∧ i ∈ ((cfg0.win 5).blk t).view.set :=
  (Value.covered_iff5 i).2 ⟨Nat.zero_le _, (i 0).isLt, Nat.zero_le _, (i 1).isLt, Nat.zero_le _, (i 2).isLt⟩

/-- The result array after the run. -/
theorem final (c : Dev nD) : (dats m 0 c).arrAt 5 cfg0.N = result m c :=
  (dats m 0 c).arrAt_eq_of_cover 5 (result m c) (fun t _ => flushed_eq m c t) cover

/-- The kernel's run: the result array holds the mixer of the arguments, which are unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.PoolIdeal.PoolValue

end
-- ==== Proof.PoolClaim.lean ====
/-
  The pooling kernel computes the reference's pooling mixer.
-/
module

public import proofs.«01_k».proof.Defs
public import proofs.«01_k».proof.Proof.PoolScan
public import proofs.«01_k».proof.Proof.PoolArray
public import proofs.«01_k».proof.Proof.Gen.Pre_pool_finite
public import Idealize.ShloMosaic.Lib.Quiescent

@[expose] public section

set_option maxRecDepth 16384

noncomputable section

namespace Cert.PoolRefIdeal.PoolValue

open Cert.PoolRefIdeal Cert.PoolRefIdeal.Gen Idealize.ShloMosaic Idealize.ShloMosaic.TcCoe Idealize.SL.Sem Cert.Rows

/-- The reference's normalized input, its channels in groups. -/
def hfV (x : FVec Ideal S8x8192x1024 .f32) (g : FVec Ideal S1024 .f32) : FVec Ideal S8x8192x4x256 .f32 :=
  shapeCast _ (mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))) shapeCasts_S8x8192x1024_S8x8192x4x256

/-- It at an index: the row's normalization. -/
theorem hfV_apply (x : FVec Ideal S8x8192x1024 .f32) (g : FVec Ideal S1024 .f32) (b : Fin 8) (s : Fin 8192) (k : Fin 4) (c : Fin 256) :
    hfV x g (ix4 b s k c) = nrm (fun k => x (ix3 b s k)) (fun k => g (ix1 k)) (ch k c) := by
  pointwise [hfV, nrm]
  rfl

/-- Its running sums are those of the channel's sequence. -/
theorem cs_hf (x : FVec Ideal S8x8192x1024 .f32) (g : FVec Ideal S1024 .f32) (b : Fin 8) (s : Fin 8192) (k : Fin 4) (c : Fin 256) :
    csV (hfV x g) (ix4 b s k c) = ∑ q ∈ Finset.range (s.val + 1), nseq (fun s k => x (ix3 b s k)) (fun k => g (ix1 k)) (ch k c) q := by
  rw [csV_apply]
  simp only [hfV_apply]
  rfl

/-- The number of terms of each position's window of `W`. -/
def cnV (W : BitVec 32) : FVec Ideal S8x8192x256 .f32 :=
  broadcastInDim S8x8192x256 ![0, 1, 2] bcast_S1x8192x1_S8x8192x256_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 W)))))

/-- It at an index. -/
theorem cnV_apply (W : Nat) (hW : W ≤ 16) (b : Fin 8) (s : Fin 8192) (c : Fin 256) : cnV (BitVec.ofNat 32 W) (ix3 b s c) = cnt W s.val := by
  rw [← Cert.PoolIdeal.PoolValue.cnt_word s.val W s.isLt hW]
  pointwise [cnV]
  show (((IntOp.minsi (BitVec.ofNat 32 s.val + 1#32) (BitVec.ofNat 32 W)).toInt : ℝ) : EReal) = _
  rw [BitVec.ofNat_add]

/-- A mean less a row, at an index. -/
theorem dvG (A L N H : FVec Ideal S8x8192x256 .f32) (i : S8x8192x256.Idx) :
    subf (Host.divf (subf A L) N) H i = Ideal.div (A i - L i) (N i) - H i := rfl

/-- A finite sequence's normalization is finite. -/
theorem real_nseq (x : FVec Ideal S8x8192x1024 .f32) (g : FVec Ideal S1024 .f32) (hx : ∀ i, Real' (x i)) (hg : ∀ i, Real' (g i)) (b : Fin 8) (d : Fin 1024) (q : Nat) :
    Real' (nseq (fun s k => x (ix3 b s k)) (fun k => g (ix1 k)) d q) := by
  unfold nseq
  by_cases h : q < 8192
  · rw [dif_pos h]; exact real_nrm _ _ (fun _ => hx _) (fun _ => hg _) d
  · rw [dif_neg h]; exact real_zero

/-- Group 0's channels. -/
def gr0 (T : FVec Ideal S8x8192x4x256 .f32) : FVec Ideal S8x8192x256 .f32 :=
  shapeCast _ (extractStridedSlice S8x8192x1x256 ![0, 0, 0, 0] T slices_S8x8192x4x256_S8x8192x1x256_0_0_0_0) shapeCasts_S8x8192x1x256_S8x8192x256

/-- They at an index. -/
theorem gr0_apply (T : FVec Ideal S8x8192x4x256 .f32) (b : Fin 8) (s : Fin 8192) (c : Fin 256) : gr0 T (ix3 b s c) = T (ix4 b s 0 c) := by
  pointwise [gr0]

/-- The rows 2 positions back, zero before the sequence begins. -/
def lo0 (T : FVec Ideal S8x8192x256 .f32) : FVec Ideal S8x8192x256 .f32 :=
  extractStridedSlice S8x8192x256 ![0, 0, 0] (pad S8x8194x256 ![0, 2, 0] ![0, 0, 0] ![0, 0, 0] T (sitofp .f32 (constantI S_ 32 0#32)) pads_S8x8192x256_S8x8194x256_000_200_000 h_S_) slices_S8x8194x256_S8x8192x256_0_0_0

/-- They at an index. -/
theorem lo0_apply (T : FVec Ideal S8x8192x256 .f32) (b : Fin 8) (s : Fin 8192) (c : Fin 256) :
    lo0 T (ix3 b s c) = if h : 2 ≤ s.val then T (ix3 b ⟨s.val - 2, by omega⟩ c) else 0 := by
  pointwise [lo0]
  have z : (FloatOps.sitofp (F := Ideal) FTy.f32 0#32 : EReal) = 0 := by
    show (((0#32 : BitVec 32).toInt : ℝ) : EReal) = 0
    simp
  by_cases h : 2 ≤ s.val
  · rw [dif_pos ⟨h, by omega⟩, dif_pos h]
  · rw [dif_neg (fun q => h q.1), dif_neg h]
    exact z

/-- Group 0's window means less its rows, from the running sums and the rows. -/
def dv0 (cs hf : FVec Ideal S8x8192x4x256 .f32) : FVec Ideal S8x8192x256 .f32 :=
  subf (Host.divf (subf (gr0 cs) (lo0 (gr0 cs))) (cnV 2#32)) (gr0 hf)

/-- They at an index, for finite inputs. -/
theorem dv0_apply (x : FVec Ideal S8x8192x1024 .f32) (g : FVec Ideal S1024 .f32) (hx : ∀ i, Real' (x i)) (hg : ∀ i, Real' (g i)) (b : Fin 8) (s : Fin 8192) (c : Fin 256) :
    dv0 (csV (hfV x g)) (hfV x g) (ix3 b s c)
      = Ideal.div (wsum (nseq (fun s k => x (ix3 b s k)) (fun k => g (ix1 k)) (ch 0 c)) 2 s.val) (cnt 2 s.val) - nrm (fun k => x (ix3 b s k)) (fun k => g (ix1 k)) (ch 0 c) := by
  unfold dv0
  rw [dvG, lo0_apply, cnV_apply 2 (by omega)]
  simp only [gr0_apply]
  rw [hfV_apply, cs_hf]
  have e : (if h : 2 ≤ s.val then csV (hfV x g) (ix4 b ⟨s.val - 2, by omega⟩ 0 c) else 0)
      = if 2 ≤ s.val then ∑ q ∈ Finset.range (s.val - 2 + 1), nseq (fun s k => x (ix3 b s k)) (fun k => g (ix1 k)) (ch 0 c) q else 0 := by
    by_cases h : 2 ≤ s.val
    · rw [dif_pos h, if_pos h, cs_hf]
    · rw [dif_neg h, if_neg h]
  rw [e, running_sub _ (real_nseq x g hx hg b _) 2 s.val]

/-- Group 1's channels. -/
def gr1 (T : FVec Ideal S8x8192x4x256 .f32) : FVec Ideal S8x8192x256 .f32 :=
  shapeCast _ (extractStridedSlice S8x8192x1x256 ![0, 0, 1, 0] T slices_S8x8192x4x256_S8x8192x1x256_0_0_1_0) shapeCasts_S8x8192x1x256_S8x8192x256

/-- They at an index. -/
theorem gr1_apply (T : FVec Ideal S8x8192x4x256 .f32) (b : Fin 8) (s : Fin 8192) (c : Fin 256) : gr1 T (ix3 b s c) = T (ix4 b s 1 c) := by
  pointwise [gr1]

/-- The rows 4 positions back, zero before the sequence begins. -/
def lo1 (T : FVec Ideal S8x8192x256 .f32) : FVec Ideal S8x8192x256 .f32 :=
  extractStridedSlice S8x8192x256 ![0, 0, 0] (pad S8x8196x256 ![0, 4, 0] ![0, 0, 0] ![0, 0, 0] T (sitofp .f32 (constantI S_ 32 0#32)) pads_S8x8192x256_S8x8196x256_000_400_000 h_S_) slices_S8x8196x256_S8x8192x256_0_0_0

/-- They at an index. -/
theorem lo1_apply (T : FVec Ideal S8x8192x256 .f32) (b : Fin 8) (s : Fin 8192) (c : Fin 256) :
    lo1 T (ix3 b s c) = if h : 4 ≤ s.val then T (ix3 b ⟨s.val - 4, by omega⟩ c) else 0 := by
  pointwise [lo1]
  have z : (FloatOps.sitofp (F := Ideal) FTy.f32 0#32 : EReal) = 0 := by
    show (((0#32 : BitVec 32).toInt : ℝ) : EReal) = 0
    simp
  by_cases h : 4 ≤ s.val
  · rw [dif_pos ⟨h, by omega⟩, dif_pos h]
  · rw [dif_neg (fun q => h q.1), dif_neg h]
    exact z

/-- Group 1's window means less its rows, from the running sums and the rows. -/
def dv1 (cs hf : FVec Ideal S8x8192x4x256 .f32) : FVec Ideal S8x8192x256 .f32 :=
  subf (Host.divf (subf (gr1 cs) (lo1 (gr1 cs))) (cnV 4#32)) (gr1 hf)

/-- They at an index, for finite inputs. -/
theorem dv1_apply (x : FVec Ideal S8x8192x1024 .f32) (g : FVec Ideal S1024 .f32) (hx : ∀ i, Real' (x i)) (hg : ∀ i, Real' (g i)) (b : Fin 8) (s : Fin 8192) (c : Fin 256) :
    dv1 (csV (hfV x g)) (hfV x g) (ix3 b s c)
      = Ideal.div (wsum (nseq (fun s k => x (ix3 b s k)) (fun k => g (ix1 k)) (ch 1 c)) 4 s.val) (cnt 4 s.val) - nrm (fun k => x (ix3 b s k)) (fun k => g (ix1 k)) (ch 1 c) := by
  unfold dv1
  rw [dvG, lo1_apply, cnV_apply 4 (by omega)]
  simp only [gr1_apply]
  rw [hfV_apply, cs_hf]
  have e : (if h : 4 ≤ s.val then csV (hfV x g) (ix4 b ⟨s.val - 4, by omega⟩ 1 c) else 0)
      = if 4 ≤ s.val then ∑ q ∈ Finset.range (s.val - 4 + 1), nseq (fun s k => x (ix3 b s k)) (fun k => g (ix1 k)) (ch 1 c) q else 0 := by
    by_cases h : 4 ≤ s.val
    · rw [dif_pos h, if_pos h, cs_hf]
    · rw [dif_neg h, if_neg h]
  rw [e, running_sub _ (real_nseq x g hx hg b _) 4 s.val]

/-- Group 2's channels. -/
def gr2 (T : FVec Ideal S8x8192x4x256 .f32) : FVec Ideal S8x8192x256 .f32 :=
  shapeCast _ (extractStridedSlice S8x8192x1x256 ![0, 0, 2, 0] T slices_S8x8192x4x256_S8x8192x1x256_0_0_2_0) shapeCasts_S8x8192x1x256_S8x8192x256

/-- They at an index. -/
theorem gr2_apply (T : FVec Ideal S8x8192x4x256 .f32) (b : Fin 8) (s : Fin 8192) (c : Fin 256) : gr2 T (ix3 b s c) = T (ix4 b s 2 c) := by
  pointwise [gr2]

/-- The rows 8 positions back, zero before the sequence begins. -/
def lo2 (T : FVec Ideal S8x8192x256 .f32) : FVec Ideal S8x8192x256 .f32 :=
  extractStridedSlice S8x8192x256 ![0, 0, 0] (pad S8x8200x256 ![0, 8, 0] ![0, 0, 0] ![0, 0, 0] T (sitofp .f32 (constantI S_ 32 0#32)) pads_S8x8192x256_S8x8200x256_000_800_000 h_S_) slices_S8x8200x256_S8x8192x256_0_0_0

/-- They at an index. -/
theorem lo2_apply (T : FVec Ideal S8x8192x256 .f32) (b : Fin 8) (s : Fin 8192) (c : Fin 256) :
    lo2 T (ix3 b s c) = if h : 8 ≤ s.val then T (ix3 b ⟨s.val - 8, by omega⟩ c) else 0 := by
  pointwise [lo2]
  have z : (FloatOps.sitofp (F := Ideal) FTy.f32 0#32 : EReal) = 0 := by
    show (((0#32 : BitVec 32).toInt : ℝ) : EReal) = 0
    simp
  by_cases h : 8 ≤ s.val
  · rw [dif_pos ⟨h, by omega⟩, dif_pos h]
  · rw [dif_neg (fun q => h q.1), dif_neg h]
    exact z

/-- Group 2's window means less its rows, from the running sums and the rows. -/
def dv2 (cs hf : FVec Ideal S8x8192x4x256 .f32) : FVec Ideal S8x8192x256 .f32 :=
  subf (Host.divf (subf (gr2 cs) (lo2 (gr2 cs))) (cnV 8#32)) (gr2 hf)

/-- They at an index, for finite inputs. -/
theorem dv2_apply (x : FVec Ideal S8x8192x1024 .f32) (g : FVec Ideal S1024 .f32) (hx : ∀ i, Real' (x i)) (hg : ∀ i, Real' (g i)) (b : Fin 8) (s : Fin 8192) (c : Fin 256) :
    dv2 (csV (hfV x g)) (hfV x g) (ix3 b s c)
      = Ideal.div (wsum (nseq (fun s k => x (ix3 b s k)) (fun k => g (ix1 k)) (ch 2 c)) 8 s.val) (cnt 8 s.val) - nrm (fun k => x (ix3 b s k)) (fun k => g (ix1 k)) (ch 2 c) := by
  unfold dv2
  rw [dvG, lo2_apply, cnV_apply 8 (by omega)]
  simp only [gr2_apply]
  rw [hfV_apply, cs_hf]
  have e : (if h : 8 ≤ s.val then csV (hfV x g) (ix4 b ⟨s.val - 8, by omega⟩ 2 c) else 0)
      = if 8 ≤ s.val then ∑ q ∈ Finset.range (s.val - 8 + 1), nseq (fun s k => x (ix3 b s k)) (fun k => g (ix1 k)) (ch 2 c) q else 0 := by
    by_cases h : 8 ≤ s.val
    · rw [dif_pos h, if_pos h, cs_hf]
    · rw [dif_neg h, if_neg h]
  rw [e, running_sub _ (real_nseq x g hx hg b _) 8 s.val]

/-- Group 3's channels. -/
def gr3 (T : FVec Ideal S8x8192x4x256 .f32) : FVec Ideal S8x8192x256 .f32 :=
  shapeCast _ (extractStridedSlice S8x8192x1x256 ![0, 0, 3, 0] T slices_S8x8192x4x256_S8x8192x1x256_0_0_3_0) shapeCasts_S8x8192x1x256_S8x8192x256

/-- They at an index. -/
theorem gr3_apply (T : FVec Ideal S8x8192x4x256 .f32) (b : Fin 8) (s : Fin 8192) (c : Fin 256) : gr3 T (ix3 b s c) = T (ix4 b s 3 c) := by
  pointwise [gr3]

/-- The rows 16 positions back, zero before the sequence begins. -/
def lo3 (T : FVec Ideal S8x8192x256 .f32) : FVec Ideal S8x8192x256 .f32 :=
  extractStridedSlice S8x8192x256 ![0, 0, 0] (pad S8x8208x256 ![0, 16, 0] ![0, 0, 0] ![0, 0, 0] T (sitofp .f32 (constantI S_ 32 0#32)) pads_S8x8192x256_S8x8208x256_000_1600_000 h_S_) slices_S8x8208x256_S8x8192x256_0_0_0

/-- They at an index. -/
theorem lo3_apply (T : FVec Ideal S8x8192x256 .f32) (b : Fin 8) (s : Fin 8192) (c : Fin 256) :
    lo3 T (ix3 b s c) = if h : 16 ≤ s.val then T (ix3 b ⟨s.val - 16, by omega⟩ c) else 0 := by
  pointwise [lo3]
  have z : (FloatOps.sitofp (F := Ideal) FTy.f32 0#32 : EReal) = 0 := by
    show (((0#32 : BitVec 32).toInt : ℝ) : EReal) = 0
    simp
  by_cases h : 16 ≤ s.val
  · rw [dif_pos ⟨h, by omega⟩, dif_pos h]
  · rw [dif_neg (fun q => h q.1), dif_neg h]
    exact z

/-- Group 3's window means less its rows, from the running sums and the rows. -/
def dv3 (cs hf : FVec Ideal S8x8192x4x256 .f32) : FVec Ideal S8x8192x256 .f32 :=
  subf (Host.divf (subf (gr3 cs) (lo3 (gr3 cs))) (cnV 16#32)) (gr3 hf)

/-- They at an index, for finite inputs. -/
theorem dv3_apply (x : FVec Ideal S8x8192x1024 .f32) (g : FVec Ideal S1024 .f32) (hx : ∀ i, Real' (x i)) (hg : ∀ i, Real' (g i)) (b : Fin 8) (s : Fin 8192) (c : Fin 256) :
    dv3 (csV (hfV x g)) (hfV x g) (ix3 b s c)
      = Ideal.div (wsum (nseq (fun s k => x (ix3 b s k)) (fun k => g (ix1 k)) (ch 3 c)) 16 s.val) (cnt 16 s.val) - nrm (fun k => x (ix3 b s k)) (fun k => g (ix1 k)) (ch 3 c) := by
  unfold dv3
  rw [dvG, lo3_apply, cnV_apply 16 (by omega)]
  simp only [gr3_apply]
  rw [hfV_apply, cs_hf]
  have e : (if h : 16 ≤ s.val then csV (hfV x g) (ix4 b ⟨s.val - 16, by omega⟩ 3 c) else 0)
      = if 16 ≤ s.val then ∑ q ∈ Finset.range (s.val - 16 + 1), nseq (fun s k => x (ix3 b s k)) (fun k => g (ix1 k)) (ch 3 c) q else 0 := by
    by_cases h : 16 ≤ s.val
    · rw [dif_pos h, if_pos h, cs_hf]
    · rw [dif_neg h, if_neg h]
  rw [e, running_sub _ (real_nseq x g hx hg b _) 16 s.val]

/-- The four groups, side by side. -/
def catV (d0 d1 d2 d3 : FVec Ideal S8x8192x256 .f32) : FVec Ideal S8x8192x4x256 .f32 :=
  (concatenate S8x8192x4x256 2 [⟨S8x8192x1x256, ((broadcastInDim S8x8192x1x256 ![0, 1, 3] bcast_S8x8192x256_S8x8192x1x256_0_1_3 d0) : (⟨S8x8192x1x256, .f32⟩ : BufTy).Contents (Elt Ideal))⟩, ⟨S8x8192x1x256, ((broadcastInDim S8x8192x1x256 ![0, 1, 3] bcast_S8x8192x256_S8x8192x1x256_0_1_3 d1) : (⟨S8x8192x1x256, .f32⟩ : BufTy).Contents (Elt Ideal))⟩, ⟨S8x8192x1x256, ((broadcastInDim S8x8192x1x256 ![0, 1, 3] bcast_S8x8192x256_S8x8192x1x256_0_1_3 d2) : (⟨S8x8192x1x256, .f32⟩ : BufTy).Contents (Elt Ideal))⟩, ⟨S8x8192x1x256, ((broadcastInDim S8x8192x1x256 ![0, 1, 3] bcast_S8x8192x256_S8x8192x1x256_0_1_3 d3) : (⟨S8x8192x1x256, .f32⟩ : BufTy).Contents (Elt Ideal))⟩] concatenates_S8x8192x1x256_S8x8192x1x256_S8x8192x1x256_S8x8192x1x256_S8x8192x4x256_d2 : (⟨S8x8192x4x256, .f32⟩ : BufTy).Contents (Elt Ideal))

/-- They at an index of each group. -/
theorem catV_apply (d0 d1 d2 d3 : FVec Ideal S8x8192x256 .f32) (b : Fin 8) (s : Fin 8192) (c : Fin 256) :
    catV d0 d1 d2 d3 (ix4 b s 0 c) = d0 (ix3 b s c) ∧ catV d0 d1 d2 d3 (ix4 b s 1 c) = d1 (ix3 b s c)
    ∧ catV d0 d1 d2 d3 (ix4 b s 2 c) = d2 (ix3 b s c) ∧ catV d0 d1 d2 d3 (ix4 b s 3 c) = d3 (ix3 b s c) := by
  refine ⟨?_, ?_, ?_, ?_⟩ <;> pointwise [catV]

/-- The groups' projections. -/
def prV (w : FVec Ideal S4x256x256 .f32) (e : FVec Ideal S8x8192x4x256 .f32) : FVec Ideal S8x8192x4x256 .f32 :=
  transpose S8x8192x4x256 [2, 3, 0, 1] (Host.dotGeneral dot_S4x256x256_S8x8192x4x256_S4x256x8x8192_1_3_2_01_0_2 none w e) transposes_S4x256x8x8192_S8x8192x4x256_2_3_0_1

/-- They at an index. -/
theorem prV_apply (w : FVec Ideal S4x256x256 .f32) (e : FVec Ideal S8x8192x4x256 .f32) (b : Fin 8) (s : Fin 8192) (k : Fin 4) (j : Fin 256) :
    prV w e (ix4 b s k j) = ∑ c : Fin 256, e (ix4 b s k c) * w (ix3 k c j) := by
  have h : prV w e (ix4 b s k j) = ∑ c : Fin 256, w (ix3 k c j) * e (ix4 b s k c) := by
    pointwise [prV]
  rw [h]
  exact Finset.sum_congr rfl fun c _ => mul_comm _ _

/-- The reference's result, from the groups' projections. -/
def outV (x : FVec Ideal S8x8192x1024 .f32) (y : FVec Ideal S8x8192x4x256 .f32) (b sc : FVec Ideal S1024 .f32) : FVec Ideal S8x8192x1024 .f32 :=
  addf x (mulf (addf (shapeCast _ y shapeCasts_S8x8192x4x256_S8x8192x1024) (broadcastInDim S8x8192x1024 ![0, 1, 2] bcast_S1x1x1024_S8x8192x1024_0_1_2 (broadcastInDim S1x1x1024 ![2] bcast_S1024_S1x1x1024_2 b))) (broadcastInDim S8x8192x1024 ![0, 1, 2] bcast_S1x1x1024_S8x8192x1024_0_1_2 (broadcastInDim S1x1x1024 ![2] bcast_S1024_S1x1x1024_2 sc)))

/-- It at an index. -/
theorem outV_apply (x : FVec Ideal S8x8192x1024 .f32) (y : FVec Ideal S8x8192x4x256 .f32) (b sc : FVec Ideal S1024 .f32) (bi : Fin 8) (s : Fin 8192) (k : Fin 4) (j : Fin 256) :
    outV x y b sc (ix3 bi s (ch k j)) = x (ix3 bi s (ch k j)) + (y (ix4 bi s k j) + b (ix1 (ch k j))) * sc (ix1 (ch k j)) := by
  pointwise [outV]
  have e1 : ∀ h, (⟨(ch k j).val / 256, h⟩ : Fin 4) = k := fun _ => Fin.ext (by show (k.val * 256 + j.val) / 256 = k.val; omega)
  have e2 : ∀ h, (⟨(ch k j).val % 256, h⟩ : Fin 256) = j := fun _ => Fin.ext (by show (k.val * 256 + j.val) % 256 = j.val; omega)
  simp only [e1, e2]

/-- The reference at an index, for finite inputs. -/
theorem ref_apply (x : FVec Ideal S8x8192x1024 .f32) (g : FVec Ideal S1024 .f32) (w : FVec Ideal S4x256x256 .f32) (b sc : FVec Ideal S1024 .f32)
    (hx : ∀ i, Real' (x i)) (hg : ∀ i, Real' (g i)) (bi : Fin 8) (s : Fin 8192) (k : Fin 4) (j : Fin 256) :
    outV x (prV w (catV (dv0 (csV (hfV x g)) (hfV x g)) (dv1 (csV (hfV x g)) (hfV x g)) (dv2 (csV (hfV x g)) (hfV x g)) (dv3 (csV (hfV x g)) (hfV x g)))) b sc (ix3 bi s (ch k j))
      = poolRow (fun s k => x (ix3 bi s k)) (fun k => g (ix1 k)) (fun k a j => w (ix3 k a j)) (fun k => b (ix1 k)) (fun k => sc (ix1 k)) s k j := by
  rw [outV_apply, prV_apply]
  unfold poolRow grp
  match k with
  | 0 => simp only [(catV_apply _ _ _ _ bi s _).1, dv0_apply x g hx hg]; rfl
  | 1 => simp only [(catV_apply _ _ _ _ bi s _).2.1, dv1_apply x g hx hg]; rfl
  | 2 => simp only [(catV_apply _ _ _ _ bi s _).2.2.1, dv2_apply x g hx hg]; rfl
  | 3 => simp only [(catV_apply _ _ _ _ bi s _).2.2.2, dv3_apply x g hx hg]; rfl

/-- The steps composed. -/
def refV (x : FVec Ideal S8x8192x1024 .f32) (g : FVec Ideal S1024 .f32) (w : FVec Ideal S4x256x256 .f32) (b sc : FVec Ideal S1024 .f32) : FVec Ideal S8x8192x1024 .f32 :=
  outV x (prV w (catV (dv0 (csV (hfV x g)) (hfV x g)) (dv1 (csV (hfV x g)) (hfV x g)) (dv2 (csV (hfV x g)) (hfV x g)) (dv3 (csV (hfV x g)) (hfV x g)))) b sc

/-- The reference's result is the composition of these steps. -/
theorem ref_term (m : (ℓ : Loc nD τ sig) → Buf (Elt Ideal) ℓ) (c : Dev nD) :
    Cert.PoolRefIdeal.Value.res_main_v94 m c = refV (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.PoolRefIdeal.PoolValue

namespace Cert.PoolClaim

open Idealize.ShloMosaic Idealize.ShloMosaic.TcCoe Idealize.SL.Sem Cert.Rows

/-- The finiteness the precondition states, read off an element. -/
theorem real_of_mask {x : EReal} (h : Ideal.cmp .olt (max x (-x)) (Ideal.ofBits .f32 0x7F800000#32) = 1#1) : Real' x := by
  have e : Ideal.ofBits .f32 0x7F800000#32 = ⊤ := by simp [Ideal.ofBits, Ideal.ieee]
  rw [e] at h
  refine real_of_abs_lt ?_
  by_contra hn
  have : Ideal.cmp .olt (max x (-x)) ⊤ = 0#1 := by
    show BitVec.ofBool (decide (max x (-x) < ⊤)) = 0#1
    rw [decide_eq_false hn]
    rfl
  rw [this] at h
  exact absurd h (by decide)

/-- The precondition: the input and the normalization's scale are finite. -/
theorem finite [Cert.Pre_pool_finite.Facts] (m : (ℓ : Loc Cert.PoolIdeal.nD Cert.PoolIdeal.τ Cert.PoolIdeal.sig) → Buf (Elt Ideal) ℓ) (h : Cert.Pre_PoolIdeal_pool_finite m) (c : Dev Cert.PoolIdeal.nD) :
    (∀ i : Cert.PoolIdeal.S8x8192x1024.Idx, Real' (m ((c.tc : Thread Cert.PoolIdeal.nD Cert.PoolIdeal.τ).loc Cert.PoolIdeal.main_arg0) i))
    ∧ ∀ i : Cert.PoolIdeal.S1024.Idx, Real' (m ((c.tc : Thread Cert.PoolIdeal.nD Cert.PoolIdeal.τ).loc Cert.PoolIdeal.main_arg1) i) := by
  have hc := h c
  exact ⟨fun i => real_of_mask (congrFun hc.1 i), fun i => real_of_mask (congrFun hc.2 i)⟩

/-- The reference runs, leaves its arguments and every semaphore as it found them. -/
theorem frame_ref [Cert.PoolRefIdeal.Facts] : Cert.quiescent_PoolRefIdeal := fun m ρ _ =>
  (θ_run Cert.PoolRefIdeal.defs _ _).mono (fun r h => ⟨fun c => (h c).2, Idealize.ShloMosaic.sem_eq_zero_of_no_sems (by decide) r.2⟩)
    (Cert.PoolRefIdeal.Value.run (F := Ideal) m ρ)

/-- The two idealized programs end with the same result array. -/
theorem algebraic [Cert.PoolIdeal.Facts] [Cert.PoolRefIdeal.Facts] [Cert.Pre_pool_finite.Facts] : Cert.algebraic_PoolIdeal_PoolRefIdeal_pre_pool_finite := by
  pair_intro
  · run_from Cert.PoolIdeal.PoolValue.run m g
  · run_from Cert.PoolRefIdeal.Value.run m' g'
    refine funext fun (j : Cert.PoolIdeal.S8x8192x1024.Idx) => ?_
    obtain ⟨b, s, d, rfl⟩ : ∃ (b : Fin 8) (s : Fin 8192) (d : Fin 1024), j = ix3 b s d := ⟨j 0, j 1, j 2, eq_ix3 j⟩
    have e := hagree c
    have f := finite m hpre c
    rw [Cert.PoolRefIdeal.PoolValue.ref_term, e.1, e.2.1, e.2.2.1, e.2.2.2.1, e.2.2.2.2]
    have r := Cert.PoolRefIdeal.PoolValue.ref_apply _ _ (m ((c.tc : Thread Cert.PoolIdeal.nD Cert.PoolIdeal.τ).loc Cert.PoolIdeal.main_arg2)) (m ((c.tc : Thread Cert.PoolIdeal.nD Cert.PoolIdeal.τ).loc Cert.PoolIdeal.main_arg3))
      (m ((c.tc : Thread Cert.PoolIdeal.nD Cert.PoolIdeal.τ).loc Cert.PoolIdeal.main_arg4)) f.1 f.2 b s (grpIx d) (inIx d)
    rw [ch_eq] at r
    exact r

end Cert.PoolClaim

end
-- ==== Proof.AttnIdealBody.lean ====
/-
  The attention kernel's body, at the idealized program, run at every point of its grid: it terminates without a fault, leaves its inputs as they
  were, and leaves its output block and its scratch buffers at some contents.  Nothing is said here of what those are.
-/
module

public import proofs.«01_k».proof.Proof.Gen.AttnIdeal.Frame
public import proofs.«01_k».proof.Proof.Gen.AttnIdeal.Skeleton
public import proofs.«01_k».proof.Proof.Gen.AttnIdeal.Loops
public import proofs.«01_k».proof.Proof.Gen.AttnIdeal.Points
public import Idealize.ShloMosaic.Lib.Pipeline.FrameBody
public import Idealize.ShloMosaic.Lib.Tactic
public import Idealize.ShloMosaic.Lib.WordCmp

@[expose] public section

set_option maxRecDepth 16384

noncomputable section

namespace Cert.AttnIdealBody

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-- The first branch is taken: the bias tables are made. -/
abbrev starts (i : grid0.Coords) : Prop := k0_cond1 i = 1#1

/-- The second branch is taken: a sequence begins, and the rows before it are cleared. -/
abbrev begins (i : grid0.Coords) : Prop :=
  Scalar.cmpi .ne (Scalar.extui (Scalar.cmpi .eq (BitVec.ofNat 32 (i 1).val) 0#32)) 0#32 = 1#1

theorem starts_iff (t : Fin cfg0.N) : starts (grid0.coords t) ↔ t.val % 128 = 0 := by
  have ht : t.val < 128 := Nat.lt_of_lt_of_eq t.isLt N_0
  have e0 : (grid0.coords t 0).val = t.val / 16 % 8 := Pipeline.Grid.coords_val t 0 (by decide) rfl
  have e1 : (grid0.coords t 1).val = t.val / 1 % 16 := Pipeline.Grid.coords_val t 1 (by decide) rfl
  simp only [starts, k0_cond1, e0, e1]
  word_cmp

theorem begins_iff (t : Fin cfg0.N) : begins (grid0.coords t) ↔ t.val % 16 = 0 := by
  have ht : t.val < 128 := Nat.lt_of_lt_of_eq t.isLt N_0
  have e1 : (grid0.coords t 1).val = t.val / 1 % 16 := Pipeline.Grid.coords_val t 1 (by decide) rfl
  simp only [begins, e1]
  word_cmp

/-- What the body is given and gives back: its inputs at their contents, the output's block and the scratch at some. -/
def held (c : Dev nD)
    (arg2 : Memref sig .tc .smem S16 .f32)
    (arg3 : Memref sig .tc .smem S32x16 .f32)
    (arg4 : Memref sig .tc .vmem S1x512x1024 .f32)
    (arg5 : Memref sig .tc .vmem S1x1024 .f32)
    (arg6 : Memref sig .tc .vmem S1024x1280 .bf16)
    (arg7 : Memref sig .tc .vmem S1x1280 .f32)
    (arg8 : Memref sig .tc .vmem S1x1024 .f32)
    (arg9 : Memref sig .tc .vmem S1x128 .f32)
    (arg10 : Memref sig .tc .vmem S128x256 .i32)
    (arg11 : Memref sig .tc .vmem S128x256 .i32)
    (arg12 : Memref sig .tc .vmem S1024x1024 .bf16)
    (arg13 : Memref sig .tc .vmem S1x1024 .f32)
    (arg14 : Memref sig .tc .vmem S1x512x1024 .f32)
    (arg15 : Memref sig .tc .vmem S2x2x512x512 .f32)
    (arg16 : Memref sig .tc .vmem S512x1024 .bf16)
    (arg17 : Memref sig .tc .vmem S4x640x128 .bf16)
    (arg18 : Memref sig .tc .vmem S4x640x128 .bf16)
    (arg19 : Memref sig .tc .vmem S512x1024 .bf16)
    (x0 : Vec F S16 .f32)
    (x1 : Vec F S32x16 .f32)
    (x2 : Vec F S1x512x1024 .f32)
    (x3 : Vec F S1x1024 .f32)
    (x4 : Vec F S1024x1280 .bf16)
    (x5 : Vec F S1x1280 .f32)
    (x6 : Vec F S1x1024 .f32)
    (x7 : Vec F S1x128 .f32)
    (x8 : Vec F S128x256 .i32)
    (x9 : Vec F S128x256 .i32)
    (x10 : Vec F S1024x1024 .bf16)
    (x11 : Vec F S1x1024 .f32) : sProp 𝕄 :=
  iprop(owns (c : Thread nD τ) arg2 fullShare x0
    ∗ owns (c : Thread nD τ) arg3 fullShare x1
    ∗ owns (c : Thread nD τ) arg4 fullShare x2
    ∗ owns (c : Thread nD τ) arg5 fullShare x3
    ∗ owns (c : Thread nD τ) arg6 fullShare x4
    ∗ owns (c : Thread nD τ) arg7 fullShare x5
    ∗ owns (c : Thread nD τ) arg8 fullShare x6
    ∗ owns (c : Thread nD τ) arg9 fullShare x7
    ∗ owns (c : Thread nD τ) arg10 fullShare x8
    ∗ owns (c : Thread nD τ) arg11 fullShare x9
    ∗ owns (c : Thread nD τ) arg12 fullShare x10
    ∗ owns (c : Thread nD τ) arg13 fullShare x11
    ∗ (∃ d, owns (c : Thread nD τ) arg14 fullShare d)
    ∗ (∃ d, owns (c : Thread nD τ) arg15 fullShare d)
    ∗ (∃ d, owns (c : Thread nD τ) arg16 fullShare d)
    ∗ (∃ d, owns (c : Thread nD τ) arg17 fullShare d)
    ∗ (∃ d, owns (c : Thread nD τ) arg18 fullShare d)
    ∗ (∃ d, owns (c : Thread nD τ) arg19 fullShare d))

/-- The body at the coordinates `i` runs from what it is given to the same. -/
def BodyRuns (c : Dev nD) (i : grid0.Coords)
    (arg2 : Memref sig .tc .smem S16 .f32) (harg2 : arg2.IsWhole)
    (arg3 : Memref sig .tc .smem S32x16 .f32) (harg3 : arg3.IsWhole)
    (arg4 : Memref sig .tc .vmem S1x512x1024 .f32) (harg4 : arg4.IsWhole)
    (arg5 : Memref sig .tc .vmem S1x1024 .f32) (harg5 : arg5.IsWhole)
    (arg6 : Memref sig .tc .vmem S1024x1280 .bf16) (harg6 : arg6.IsWhole)
    (arg7 : Memref sig .tc .vmem S1x1280 .f32) (harg7 : arg7.IsWhole)
    (arg8 : Memref sig .tc .vmem S1x1024 .f32) (harg8 : arg8.IsWhole)
    (arg9 : Memref sig .tc .vmem S1x128 .f32) (harg9 : arg9.IsWhole)
    (arg10 : Memref sig .tc .vmem S128x256 .i32) (harg10 : arg10.IsWhole)
    (arg11 : Memref sig .tc .vmem S128x256 .i32) (harg11 : arg11.IsWhole)
    (arg12 : Memref sig .tc .vmem S1024x1024 .bf16) (harg12 : arg12.IsWhole)
    (arg13 : Memref sig .tc .vmem S1x1024 .f32) (harg13 : arg13.IsWhole)
    (arg14 : Memref sig .tc .vmem S1x512x1024 .f32) (harg14 : arg14.IsWhole)
    (arg15 : Memref sig .tc .vmem S2x2x512x512 .f32) (harg15 : arg15.IsWhole)
    (arg16 : Memref sig .tc .vmem S512x1024 .bf16) (harg16 : arg16.IsWhole)
    (arg17 : Memref sig .tc .vmem S4x640x128 .bf16) (harg17 : arg17.IsWhole)
    (arg18 : Memref sig .tc .vmem S4x640x128 .bf16) (harg18 : arg18.IsWhole)
    (arg19 : Memref sig .tc .vmem S512x1024 .bf16) (harg19 : arg19.IsWhole) : Prop :=
  ∀ (x0 : Vec F S16 .f32)
    (x1 : Vec F S32x16 .f32)
    (x2 : Vec F S1x512x1024 .f32)
    (x3 : Vec F S1x1024 .f32)
    (x4 : Vec F S1024x1280 .bf16)
    (x5 : Vec F S1x1280 .f32)
    (x6 : Vec F S1x1024 .f32)
    (x7 : Vec F S1x128 .f32)
    (x8 : Vec F S128x256 .i32)
    (x9 : Vec F S128x256 .i32)
    (x10 : Vec F S1024x1024 .bf16)
    (x11 : Vec F S1x1024 .f32)
    (E : Set ℕ) (K : PUnit → sProp 𝕄),
    iprop(held c arg2 arg3 arg4 arg5 arg6 arg7 arg8 arg9 arg10 arg11 arg12 arg13 arg14 arg15 arg16 arg17 arg18 arg19
        x0 x1 x2 x3 x4 x5 x6 x7 x8 x9 x10 x11
      ∗ (held c arg2 arg3 arg4 arg5 arg6 arg7 arg8 arg9 arg10 arg11 arg12 arg13 arg14 arg15 arg16 arg17 arg18 arg19
        x0 x1 x2 x3 x4 x5 x6 x7 x8 x9 x10 x11 -∗ K ⟨⟩))
    ⊢ wp frame (wpE (defs₀ (F := F)) Variants.none c none) E
      (cc0_attn_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K

set_option maxHeartbeats 4000000 in
/-- The first point of the grid: both branches taken. -/
theorem run_first (c : Dev nD) (i : grid0.Coords)
    (arg2 : Memref sig .tc .smem S16 .f32) (harg2 : arg2.IsWhole)
    (arg3 : Memref sig .tc .smem S32x16 .f32) (harg3 : arg3.IsWhole)
    (arg4 : Memref sig .tc .vmem S1x512x1024 .f32) (harg4 : arg4.IsWhole)
    (arg5 : Memref sig .tc .vmem S1x1024 .f32) (harg5 : arg5.IsWhole)
    (arg6 : Memref sig .tc .vmem S1024x1280 .bf16) (harg6 : arg6.IsWhole)
    (arg7 : Memref sig .tc .vmem S1x1280 .f32) (harg7 : arg7.IsWhole)
    (arg8 : Memref sig .tc .vmem S1x1024 .f32) (harg8 : arg8.IsWhole)
    (arg9 : Memref sig .tc .vmem S1x128 .f32) (harg9 : arg9.IsWhole)
    (arg10 : Memref sig .tc .vmem S128x256 .i32) (harg10 : arg10.IsWhole)
    (arg11 : Memref sig .tc .vmem S128x256 .i32) (harg11 : arg11.IsWhole)
    (arg12 : Memref sig .tc .vmem S1024x1024 .bf16) (harg12 : arg12.IsWhole)
    (arg13 : Memref sig .tc .vmem S1x1024 .f32) (harg13 : arg13.IsWhole)
    (arg14 : Memref sig .tc .vmem S1x512x1024 .f32) (harg14 : arg14.IsWhole)
    (arg15 : Memref sig .tc .vmem S2x2x512x512 .f32) (harg15 : arg15.IsWhole)
    (arg16 : Memref sig .tc .vmem S512x1024 .bf16) (harg16 : arg16.IsWhole)
    (arg17 : Memref sig .tc .vmem S4x640x128 .bf16) (harg17 : arg17.IsWhole)
    (arg18 : Memref sig .tc .vmem S4x640x128 .bf16) (harg18 : arg18.IsWhole)
    (arg19 : Memref sig .tc .vmem S512x1024 .bf16) (harg19 : arg19.IsWhole)
    (hc0 : starts i) (hc1 : begins i) : BodyRuns (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  intro x0 x1 x2 x3 x4 x5 x6 x7 x8 x9 x10 x11 E K
  simp only [cc0_attn_mixer_eq_skeleton]; unfold cc0_attn_mixer_skel
  simp only [k0_part1_eq_skeleton, k0_part2_eq_skeleton, k0_part3_eq_skeleton, k0_part4_eq_skeleton,
    k0_part5_eq_skeleton, k0_part6_eq_skeleton, k0_part7_eq_skeleton, k0_part8_eq_skeleton,
    k0_part17_eq_skeleton, k0_part18_eq_skeleton, k0_part19_eq_skeleton, k0_part20_eq_skeleton, k0_part21_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _, _; isplitr; swap; · iexact H12
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

set_option maxHeartbeats 4000000 in
/-- The other points where a sequence begins. -/
theorem run_begin (c : Dev nD) (i : grid0.Coords)
    (arg2 : Memref sig .tc .smem S16 .f32) (harg2 : arg2.IsWhole)
    (arg3 : Memref sig .tc .smem S32x16 .f32) (harg3 : arg3.IsWhole)
    (arg4 : Memref sig .tc .vmem S1x512x1024 .f32) (harg4 : arg4.IsWhole)
    (arg5 : Memref sig .tc .vmem S1x1024 .f32) (harg5 : arg5.IsWhole)
    (arg6 : Memref sig .tc .vmem S1024x1280 .bf16) (harg6 : arg6.IsWhole)
    (arg7 : Memref sig .tc .vmem S1x1280 .f32) (harg7 : arg7.IsWhole)
    (arg8 : Memref sig .tc .vmem S1x1024 .f32) (harg8 : arg8.IsWhole)
    (arg9 : Memref sig .tc .vmem S1x128 .f32) (harg9 : arg9.IsWhole)
    (arg10 : Memref sig .tc .vmem S128x256 .i32) (harg10 : arg10.IsWhole)
    (arg11 : Memref sig .tc .vmem S128x256 .i32) (harg11 : arg11.IsWhole)
    (arg12 : Memref sig .tc .vmem S1024x1024 .bf16) (harg12 : arg12.IsWhole)
    (arg13 : Memref sig .tc .vmem S1x1024 .f32) (harg13 : arg13.IsWhole)
    (arg14 : Memref sig .tc .vmem S1x512x1024 .f32) (harg14 : arg14.IsWhole)
    (arg15 : Memref sig .tc .vmem S2x2x512x512 .f32) (harg15 : arg15.IsWhole)
    (arg16 : Memref sig .tc .vmem S512x1024 .bf16) (harg16 : arg16.IsWhole)
    (arg17 : Memref sig .tc .vmem S4x640x128 .bf16) (harg17 : arg17.IsWhole)
    (arg18 : Memref sig .tc .vmem S4x640x128 .bf16) (harg18 : arg18.IsWhole)
    (arg19 : Memref sig .tc .vmem S512x1024 .bf16) (harg19 : arg19.IsWhole)
    (hc0 : ¬starts i) (hc1 : begins i) : BodyRuns (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  intro x0 x1 x2 x3 x4 x5 x6 x7 x8 x9 x10 x11 E K
  simp only [cc0_attn_mixer_eq_skeleton]; unfold cc0_attn_mixer_skel
  simp only [k0_part17_eq_skeleton, k0_part18_eq_skeleton, k0_part19_eq_skeleton, k0_part20_eq_skeleton, k0_part21_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _, _; isplitr; swap; · iexact H12
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

set_option maxHeartbeats 4000000 in
/-- The points inside a sequence. -/
theorem run_inner (c : Dev nD) (i : grid0.Coords)
    (arg2 : Memref sig .tc .smem S16 .f32) (harg2 : arg2.IsWhole)
    (arg3 : Memref sig .tc .smem S32x16 .f32) (harg3 : arg3.IsWhole)
    (arg4 : Memref sig .tc .vmem S1x512x1024 .f32) (harg4 : arg4.IsWhole)
    (arg5 : Memref sig .tc .vmem S1x1024 .f32) (harg5 : arg5.IsWhole)
    (arg6 : Memref sig .tc .vmem S1024x1280 .bf16) (harg6 : arg6.IsWhole)
    (arg7 : Memref sig .tc .vmem S1x1280 .f32) (harg7 : arg7.IsWhole)
    (arg8 : Memref sig .tc .vmem S1x1024 .f32) (harg8 : arg8.IsWhole)
    (arg9 : Memref sig .tc .vmem S1x128 .f32) (harg9 : arg9.IsWhole)
    (arg10 : Memref sig .tc .vmem S128x256 .i32) (harg10 : arg10.IsWhole)
    (arg11 : Memref sig .tc .vmem S128x256 .i32) (harg11 : arg11.IsWhole)
    (arg12 : Memref sig .tc .vmem S1024x1024 .bf16) (harg12 : arg12.IsWhole)
    (arg13 : Memref sig .tc .vmem S1x1024 .f32) (harg13 : arg13.IsWhole)
    (arg14 : Memref sig .tc .vmem S1x512x1024 .f32) (harg14 : arg14.IsWhole)
    (arg15 : Memref sig .tc .vmem S2x2x512x512 .f32) (harg15 : arg15.IsWhole)
    (arg16 : Memref sig .tc .vmem S512x1024 .bf16) (harg16 : arg16.IsWhole)
    (arg17 : Memref sig .tc .vmem S4x640x128 .bf16) (harg17 : arg17.IsWhole)
    (arg18 : Memref sig .tc .vmem S4x640x128 .bf16) (harg18 : arg18.IsWhole)
    (arg19 : Memref sig .tc .vmem S512x1024 .bf16) (harg19 : arg19.IsWhole)
    (hc0 : ¬starts i) (hc1 : ¬begins i) : BodyRuns (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  intro x0 x1 x2 x3 x4 x5 x6 x7 x8 x9 x10 x11 E K
  simp only [cc0_attn_mixer_eq_skeleton]; unfold cc0_attn_mixer_skel
  simp only [k0_part17_eq_skeleton, k0_part18_eq_skeleton, k0_part19_eq_skeleton, k0_part20_eq_skeleton, k0_part21_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _, _; isplitr; swap; · iexact H12
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

/-! ## The proof data -/

section Launch

variable (m : (ℓ : Loc nD τ sig) → Buf (Elt F) ℓ) (ρ : Dev nD → PrngReg)

/-- Nothing is said of the output. -/
def forgets0 : Fin 13 → Bool := fun w => w.val == 12

/-- The arrays as the kernel finds them, each input left at its block, the output unnamed, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
/-- The scratch buffers at some contents, and the generator's register. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare d))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ (∃ d, owns (c : Thread nD τ) (win0_12.stage (cfg0.slots t 12)) fullShare d))

/-- The body runs at every point of the grid. -/
theorem runs_at (c : Dev nD) (t : Fin cfg0.N) : BodyRuns (F := F) c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (win0_10.stage (cfg0.slots t 10)) (hstage0_10 ((cfg0.slots t 10).cast nbuf0_10))
    (win0_11.stage (cfg0.slots t 11)) (hstage0_11 ((cfg0.slots t 11).cast nbuf0_11))
    (win0_12.stage (cfg0.slots t 12)) (hstage0_12 ((cfg0.slots t 12).cast nbuf0_12))
    (Memref.whole cc0_scratch0) (Memref.isWhole_whole _)
    (Memref.whole cc0_scratch1) (Memref.isWhole_whole _)
    (Memref.whole cc0_scratch2) (Memref.isWhole_whole _)
    (Memref.whole cc0_scratch3) (Memref.isWhole_whole _)
    (Memref.whole cc0_scratch4) (Memref.isWhole_whole _) := by
  have hN : t.val < 128 := Nat.lt_of_lt_of_eq t.isLt N_0
  by_cases h1 : t.val % 16 = 0
  · by_cases h0 : t.val % 128 = 0
    · exact run_first c _ _ _ _ _ _ _ _ _ _ _ _ _ _ _ _ _ _ _ _ _ _ _ _ _ _ _ _ _ _ _ _ _ _ _ _ _ ((starts_iff t).mpr h0) ((begins_iff t).mpr h1)
    · exact run_begin c _ _ _ _ _ _ _ _ _ _ _ _ _ _ _ _ _ _ _ _ _ _ _ _ _ _ _ _ _ _ _ _ _ _ _ _ _ (fun h => h0 ((starts_iff t).mp h)) ((begins_iff t).mpr h1)
  · exact run_inner c _ _ _ _ _ _ _ _ _ _ _ _ _ _ _ _ _ _ _ _ _ _ _ _ _ _ _ _ _ _ _ _ _ _ _ _ _
      (fun h => h1 (by have := (starts_iff t).mp h; omega)) (fun h => h1 ((begins_iff t).mp h))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, scratch_eq,
    after0_0, after0_1, after0_2, after0_3, after0_4, after0_5, after0_6, after0_7, after0_8, after0_9, after0_10, after0_11]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
  iapply (runs_at c t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
  unfold held
  isplitl [H0 H1 H2 H3 H4 H5 H6 H7 H8 H9 H10 H11 H12 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    isplitl [HS3]; · iexact HS3
    iexact HS4
  iintro ⟨H0, H1, H2, H3, H4, H5, H6, H7, H8, H9, H10, H11, H12, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- Every execution terminates without a fault, with every input array as it was and every counter at zero. -/
theorem run_main : θ_run defs (onTc (τ := τ) (main (F := F))) (s₀ m ρ)
    (fun r => Pipeline.RDat.FramePost (cfgs 0) (fun c => (dats m 0 c).toRForget forgets0) (V m) r
      ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end as they were, and every counter is zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(Pipeline.RDat.FramePost.arr_in h.1 c 2 rfl).trans ((A_eq m c 2).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (Pipeline.RDat.FramePost.arr_in h.1 c 0 rfl).trans ((A_eq m c 0).trans (V_main_arg6 m c)),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      (Pipeline.RDat.FramePost.arr_in h.1 c 1 rfl).trans ((A_eq m c 1).trans (V_main_arg9 m c))⟩, h.2⟩) (run_main m ρ)

end Launch

end Cert.AttnIdealBody

end
-- ==== Proof.lean ====
/-
  The proof of `Cert.Claim`: the runs of every program, the passes' claims, and the value claims of the feed-forward, the
  short-convolution and the pooling kernels, which their own modules prove; of the attention kernel, its runs.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ReferenceIdeal
public import proofs.«01_k».proof.Proof.Gen.ConvRefIdeal
public import proofs.«01_k».proof.Proof.Gen.KernelIdeal.Value
public import proofs.«01_k».proof.Proof.Gen.ReferenceIdeal.Run
public import proofs.«01_k».proof.Proof.Gen.ConvIdeal.Value
public import proofs.«01_k».proof.Proof.Gen.ConvRefIdeal.Run
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.Pre_pool_finite
public import proofs.«01_k».proof.Proof.FfnClaim
public import proofs.«01_k».proof.Proof.ConvClaim
public import proofs.«01_k».proof.Proof.PoolClaim
public import proofs.«01_k».proof.Proof.AttnBody
public import proofs.«01_k».proof.Proof.AttnIdealBody
public import Idealize.ShloMosaic.Adequacy
public import Idealize.ShloMosaic.Init

@[expose] public section

noncomputable section

namespace Cert.Proof

open Idealize.ShloMosaic Idealize.SL.Sem Cert.Kernel

/-- Every stated claim holds. -/
theorem claim : Cert.Claim := ⟨Cert.Kernel.Gen.facts, Cert.KernelIdeal.Gen.facts, Cert.ReferenceIdeal.Gen.facts, Cert.Conv.Gen.facts, Cert.ConvIdeal.Gen.facts, Cert.ConvRefIdeal.Gen.facts,
    Cert.Pool.Gen.facts, Cert.PoolIdeal.Gen.facts, Cert.PoolRefIdeal.Gen.facts, Cert.Attn.Gen.facts, Cert.AttnIdeal.Gen.facts, Cert.Pre_pool_finite.Gen.facts, by
  letI := Cert.Kernel.Gen.facts
  letI := Cert.KernelIdeal.Gen.facts
  letI := Cert.ReferenceIdeal.Gen.facts
  letI := Cert.Conv.Gen.facts
  letI := Cert.ConvIdeal.Gen.facts
  letI := Cert.ConvRefIdeal.Gen.facts
  letI := Cert.Pool.Gen.facts
  letI := Cert.PoolIdeal.Gen.facts
  letI := Cert.PoolRefIdeal.Gen.facts
  letI := Cert.Attn.Gen.facts
  letI := Cert.AttnIdeal.Gen.facts
  letI := Cert.Pre_pool_finite.Gen.facts
  exact ⟨fun m ρ _ => Cert.Kernel.Gen.frame m ρ, fun m ρ _ => Cert.KernelIdeal.Gen.frame m ρ, Cert.FfnClaim.frame_ref,
    fun m ρ _ => Cert.Conv.Gen.frame m ρ, fun m ρ _ => Cert.ConvIdeal.Gen.frame m ρ, Cert.ConvClaim.frame_ref,
    fun m ρ _ => Cert.Pool.Gen.frame m ρ, fun m ρ _ => Cert.PoolIdeal.Gen.frame m ρ, fun m ρ _ => Cert.PoolIdeal.Gen.frame m ρ, Cert.PoolClaim.frame_ref, fun m ρ _ => Cert.PoolClaim.frame_ref m ρ trivial,
    fun m ρ _ => Cert.AttnBody.frame_run m ρ, fun m ρ _ => Cert.AttnIdealBody.frame_run m ρ,
    trivial, Cert.FfnClaim.algebraic, trivial, Cert.ConvClaim.algebraic, trivial, Cert.PoolClaim.algebraic,
    IdealRules.named_const.statement Cert.AttnIdeal.κ "mask" .f32 0xF149F2CA#32 ⊥ rfl⟩⟩

end Cert.Proof

end
